-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x19x512x512 : Shape := ⟨4, ![2, 19, 512, 512]⟩
abbrev S2x512x512 : Shape := ⟨3, ![2, 512, 512]⟩
abbrev S1x1 : Shape := ⟨2, ![1, 1]⟩
abbrev S1x19x128x512 : Shape := ⟨4, ![1, 19, 128, 512]⟩
abbrev S1x128 : Shape := ⟨2, ![1, 128]⟩
abbrev S1x1x128x512 : Shape := ⟨4, ![1, 1, 128, 512]⟩
abbrev S128x512 : Shape := ⟨2, ![128, 512]⟩
abbrev S128 : Shape := ⟨1, ![128]⟩
abbrev S128x1 : Shape := ⟨2, ![128, 1]⟩
abbrev S128x110 : Shape := ⟨2, ![128, 110]⟩
abbrev S128x128 : Shape := ⟨2, ![128, 128]⟩
abbrev S127x128 : Shape := ⟨2, ![127, 128]⟩
abbrev S2x128 : Shape := ⟨2, ![2, 128]⟩
abbrev S126x128 : Shape := ⟨2, ![126, 128]⟩
abbrev S4x128 : Shape := ⟨2, ![4, 128]⟩
abbrev S124x128 : Shape := ⟨2, ![124, 128]⟩
abbrev S8x128 : Shape := ⟨2, ![8, 128]⟩
abbrev S120x128 : Shape := ⟨2, ![120, 128]⟩
abbrev S16x128 : Shape := ⟨2, ![16, 128]⟩
abbrev S112x128 : Shape := ⟨2, ![112, 128]⟩
abbrev S32x128 : Shape := ⟨2, ![32, 128]⟩
abbrev S96x128 : Shape := ⟨2, ![96, 128]⟩
abbrev S64x128 : Shape := ⟨2, ![64, 128]⟩
abbrev S1x1x128 : Shape := ⟨3, ![1, 1, 128]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 1
  | _ => 0

abbrev bufTy : (tb : Table) → Fin (tcTables nBuf tb) → BufTy
  | .hbm, ⟨0, _⟩ => ⟨S2x19x512x512, .f32⟩
  | .hbm, ⟨1, _⟩ => ⟨S2x512x512, .i32⟩
  | .hbm, ⟨2, _⟩ => ⟨S1x1, .f32⟩
  | .hbm, ⟨3, _⟩ => ⟨S_, .f32⟩
  | .local _ .vmem, ⟨0, _⟩ => ⟨S1x19x128x512, .f32⟩
  | .local _ .vmem, ⟨1, _⟩ => ⟨S1x19x128x512, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .smem, ⟨0, _⟩ => ⟨S1x1, .f32⟩
  | _, _ => ⟨S2x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32_210 : BitVec 32 := 3#32
  let v482 : BitVec 1 := Scalar.cmpi .eq arg1 c3_i32_210
  let v483 : BitVec 32 := Scalar.extui v482
  let c0_i32_211 : BitVec 32 := 0#32
  let v484 : BitVec 1 := Scalar.cmpi .ne v483 c0_i32_211
  v484

def k0_cond3 (i : grid0.Coords) : BitVec 1 :=
  let arg0 : BitVec 32 := BitVec.ofNat 32 (i 0).val
  let c0_i32_222 : BitVec 32 := 0#32
  let v503 : BitVec 1 := Scalar.cmpi .eq arg0 c0_i32_222
  let v504 : BitVec 32 := Scalar.extui v503
  let c0_i32_223 : BitVec 32 := 0#32
  let v505 : BitVec 1 := Scalar.cmpi .ne v504 c0_i32_223
  v505

def k0_cond4 (i : grid0.Coords) : BitVec 1 :=
  let arg0 : BitVec 32 := BitVec.ofNat 32 (i 0).val
  let c0_i32_224 : BitVec 32 := 0#32
  let v506 : BitVec 1 := Scalar.cmpi .ne arg0 c0_i32_224
  let v507 : BitVec 32 := Scalar.extui v506
  let c0_i32_225 : BitVec 32 := 0#32
  let v508 : BitVec 1 := Scalar.cmpi .ne v507 c0_i32_225
  v508

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== ReferenceIdeal.lean ====
abbrev S2x19x512x512 : Shape := ⟨4, ![2, 19, 512, 512]⟩
abbrev S2x512x512 : Shape := ⟨3, ![2, 512, 512]⟩
abbrev S_ : Shape := ⟨0, ![]⟩
abbrev S2x1x262144 : Shape := ⟨3, ![2, 1, 262144]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S262144 : Shape := ⟨1, ![262144]⟩
abbrev S262143 : Shape := ⟨1, ![262143]⟩
abbrev S18 : Shape := ⟨1, ![18]⟩
abbrev S1x18x1 : Shape := ⟨3, ![1, 18, 1]⟩
abbrev S2x18x262144 : Shape := ⟨3, ![2, 18, 262144]⟩
abbrev S2x18 : Shape := ⟨2, ![2, 18]⟩
abbrev S2x18x262144x1 : Shape := ⟨4, ![2, 18, 262144, 1]⟩
abbrev S2x18x262143 : Shape := ⟨3, ![2, 18, 262143]⟩
abbrev S2x18x1 : Shape := ⟨3, ![2, 18, 1]⟩
abbrev S1x1x262143 : Shape := ⟨3, ![1, 1, 262143]⟩

abbrev nBuf : Space → Nat
  | .hbm => 83
  | .vmem => 0
  | .smem => 0
  | _ => 0

abbrev bufTy : (tb : Table) → Fin (tcTables nBuf tb) → BufTy
  | .hbm, ⟨0, _⟩ => ⟨S2x19x512x512, .f32⟩
  | .hbm, ⟨1, _⟩ => ⟨S2x512x512, .i32⟩
  | .hbm, ⟨2, _⟩ => ⟨S2x19x512x512, .i32⟩
  | .hbm, ⟨3, _⟩ => ⟨S_, .f32⟩
  | .hbm, ⟨4, _⟩ => ⟨S_, .i32⟩
  | .hbm, ⟨5, _⟩ => ⟨S2x512x512, .f32⟩
  | .hbm, ⟨6, _⟩ => ⟨S2x512x512, .i32⟩
  | .hbm, ⟨7, _⟩ => ⟨S2x1x262144, .i32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S1x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S262144, .f32⟩
  | .hbm, ⟨16, _⟩ => ⟨S262143, .f32⟩
  | .hbm, ⟨17, _⟩ => ⟨S18, .i32⟩
  | .hbm, ⟨18, _⟩ => ⟨S_, .i32⟩
  | .hbm, ⟨19, _⟩ => ⟨S18, .i32⟩
  | .hbm, ⟨20, _⟩ => ⟨S18, .i32⟩
  | .hbm, ⟨21, _⟩ => ⟨S1x18x1, .i32⟩
  | .hbm, ⟨22, _⟩ => ⟨S2x18x262144, .i32⟩
  | .hbm, ⟨23, _⟩ => ⟨S2x18x262144, .i32⟩
  | .hbm, ⟨24, _⟩ => ⟨S2x18x262144, .i1⟩
  | .hbm, ⟨25, _⟩ => ⟨S2x18x262144, .f32⟩
  | .hbm, ⟨26, _⟩ => ⟨S_, .f32⟩
  | .hbm, ⟨27, _⟩ => ⟨S2x18, .f32⟩
  | .hbm, ⟨28, _⟩ => ⟨S_, .i32⟩
  | .hbm, ⟨29, _⟩ => ⟨S_, .i32⟩
  | .hbm, ⟨30, _⟩ => ⟨S2x18x262144, .i32⟩
  | .hbm, ⟨31, _⟩ => ⟨S2x18x262144, .i32⟩
  | .hbm, ⟨32, _⟩ => ⟨S2x18x262144, .i32⟩
  | .hbm, ⟨33, _⟩ => ⟨S2x18x262144, .i32⟩
  | .hbm, ⟨34, _⟩ => ⟨S2x18x262144, .i32⟩
  | .hbm, ⟨35, _⟩ => ⟨S2x18x262144, .i32⟩
  | .hbm, ⟨36, _⟩ => ⟨S_, .i32⟩
  | .hbm, ⟨37, _⟩ => ⟨S2x18x262144, .i32⟩
  | .hbm, ⟨38, _⟩ => ⟨S2x18x262144, .i1⟩
  | .hbm, ⟨39, _⟩ => ⟨S_, .i32⟩
  | .hbm, ⟨40, _⟩ => ⟨S2x18x262144, .i32⟩
  | .hbm, ⟨41, _⟩ => ⟨S2x18x262144, .i32⟩
  | .hbm, ⟨42, _⟩ => ⟨S2x18x262144, .i32⟩
  | .hbm, ⟨43, _⟩ => ⟨S2x18x262144x1, .i32⟩
  | .hbm, ⟨44, _⟩ => ⟨S2x18x262144, .f32⟩
  | .hbm, ⟨45, _⟩ => ⟨S2x18x262143, .f32⟩
  | .hbm, ⟨46, _⟩ => ⟨S2x18x262143, .f32⟩
  | .hbm, ⟨47, _⟩ => ⟨S2x18x262143, .f32⟩
  | .hbm, ⟨48, _⟩ => ⟨S2x18x1, .f32⟩
  | .hbm, ⟨49, _⟩ => ⟨S_, .f32⟩
  | .hbm, ⟨50, _⟩ => ⟨S2x18x1, .f32⟩
  | .hbm, ⟨51, _⟩ => ⟨S2x18x1, .f32⟩
  | .hbm, ⟨52, _⟩ => ⟨S1x1x262143, .f32⟩
  | .hbm, ⟨53, _⟩ => ⟨S2x18x262143, .f32⟩
  | .hbm, ⟨54, _⟩ => ⟨S2x18x262143, .f32⟩
  | .hbm, ⟨55, _⟩ => ⟨S2x18x262143, .i1⟩
  | .hbm, ⟨56, _⟩ => ⟨S2x18x262143, .f32⟩
  | .hbm, ⟨57, _⟩ => ⟨S2x18x262143, .f32⟩
  | .hbm, ⟨58, _⟩ => ⟨S2x18x262143, .f32⟩
  | .hbm, ⟨59, _⟩ => ⟨S_, .f32⟩
  | .hbm, ⟨60, _⟩ => ⟨S2x18, .f32⟩
  | .hbm, ⟨61, _⟩ => ⟨S_, .f32⟩
  | .hbm, ⟨62, _⟩ => ⟨S2x18, .f32⟩
  | .hbm, ⟨63, _⟩ => ⟨S2x18, .f32⟩
  | .hbm, ⟨64, _⟩ => ⟨S_, .f32⟩
  | .hbm, ⟨65, _⟩ => ⟨S2x18, .f32⟩
  | .hbm, ⟨66, _⟩ => ⟨S2x18, .f32⟩
  | .hbm, ⟨67, _⟩ => ⟨S2x18, .f32⟩
  | .hbm, ⟨68, _⟩ => ⟨S_, .f32⟩
  | .hbm, ⟨69, _⟩ => ⟨S2x18, .f32⟩
  | .hbm, ⟨70, _⟩ => ⟨S2x18, .i1⟩
  | .hbm, ⟨71, _⟩ => ⟨S_, .f32⟩
  | .hbm, ⟨72, _⟩ => ⟨S2x18, .f32⟩
  | .hbm, ⟨73, _⟩ => ⟨S2x18, .f32⟩
  | .hbm, ⟨74, _⟩ => ⟨S2x18, .f32⟩
  | .hbm, ⟨75, _⟩ => ⟨S_, .f32⟩
  | .hbm, ⟨76, _⟩ => ⟨S_, .f32⟩
  | .hbm, ⟨77, _⟩ => ⟨S2x18, .f32⟩
  | .hbm, ⟨78, _⟩ => ⟨S2x18, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S2x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_c_0 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_call2_v0 : Ref sig .tc := ⟨.hbm, 33, rfl⟩
abbrev main_call2_v1_0 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Proof.RefRun.lean ====
/- The run of the reference program. Its value is stated here in stages, each one a function of the stage before:
   the class of every pixel, the membership masks, the pixel counts, the order of the pixels of a class, the values
   in that order, the sum of the distances, the contribution of each image and class, and the total. -/
module

public import proofs.«01_k».proof.Defs
public import proofs.«01_k».proof.Proof.Gen.ReferenceIdeal
public import Idealize.ShloMosaic.Lib.Claim

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The class of every pixel: the index of the largest logit. -/
def seg (x : FVec F S2x19x512x512 .f32) : IVec S2x512x512 32 := fun j =>
  (Host.argReduce reducer_argmax_f32_i32 x (iotaInDim S2x19x512x512 32 1) (constant S_ .f32 0xFF800000#32)
    (constantI S_ 32 0#32) reducesTo_S2x19x512x512_S2x512x512_d1 h_S_ j).2

/-- Whether a pixel belongs to a class, for every image, class and pixel. -/
def mask (s : IVec S2x512x512 32) : IVec S2x18x262144 1 :=
  cmpi .eq
    (broadcastInDim S2x18x262144 ![0, 1, 2] bcast_S2x1x262144_S2x18x262144_0_1_2
      (shapeCast S2x1x262144 s shapeCasts_S2x512x512_S2x1x262144))
    (broadcastInDim S2x18x262144 ![0, 1, 2] bcast_S1x18x1_S2x18x262144_0_1_2
      (shapeCast S1x18x1
        (addi (broadcastInDim S18 ![] bcast_S_S18 (constantI S_ 32 1#32)) (iotaInDim S18 32 0))
        shapeCasts_S18_S1x18x1))

/-- Column minus row, at every pixel in row-major order. -/
def vals : FVec F S262144 .f32 :=
  shapeCast S262144
    (subf
      (broadcastInDim S512x512 ![0, 1] bcast_S1x512_S512x512_0_1
        (broadcastInDim S1x512 ![1] bcast_S512_S1x512_1 (sitofp .f32 (iotaInDim S512 32 0) : FVec F S512 .f32)))
      (broadcastInDim S512x512 ![0, 1] bcast_S512x1_S512x512_0_1
        (broadcastInDim S512x1 ![0] bcast_S512_S512x1_0 (sitofp .f32 (iotaInDim S512 32 0) : FVec F S512 .f32))))
    shapeCasts_S512x512_S262144

/-- The number of pixels of each class. -/
def nf (k : IVec S2x18x262144 1) : FVec F S2x18 .f32 :=
  Host.reduceAdd (uitofp .f32 k) (constant S_ .f32 0x00000000#32) reducesTo_S2x18x262144_S2x18_d2 h_S_

/-- The pixels in the order of a stable sort that puts the members of the class first. -/
def order (k : IVec S2x18x262144 1) : IVec S2x18x262144 32 :=
  (Host.sort2 S2x18x262144 2 comparator_i32_i32_d2
    (select k (broadcastInDim S2x18x262144 ![] bcast_S_S2x18x262144 (constantI S_ 32 0#32))
      (broadcastInDim S2x18x262144 ![] bcast_S_S2x18x262144 (constantI S_ 32 1#32)))
    (iotaInDim S2x18x262144 32 2)).2

/-- That order, with a negative position counted from the end. -/
def wrapped (o : IVec S2x18x262144 32) : IVec S2x18x262144 32 :=
  select (cmpi .slt o (broadcastInDim S2x18x262144 ![] bcast_S_S2x18x262144 (constantI S_ 32 0#32)))
    (addi o (broadcastInDim S2x18x262144 ![] bcast_S_S2x18x262144 (constantI S_ 32 262144#32))) o

/-- The pixels' values in that order. -/
def gathered (o : IVec S2x18x262144 32) : FVec F S2x18x262144 .f32 :=
  Host.gather gather_S262144_S2x18x262144x1_S2x18x262144_n_0_n_n_0_3_1 (vals : FVec F S262144 .f32)
    (broadcastInDim S2x18x262144x1 ![0, 1, 2] bcast_S2x18x262144_S2x18x262144x1_0_1_2 (wrapped o))

/-- One where both ends of a pair of neighbours belong to the class, zero elsewhere. -/
def valid (n : FVec F S2x18 .f32) : FVec F S2x18x262143 .f32 :=
  uitofp .f32 (cmpf .olt
    (broadcastInDim S2x18x262143 ![0, 1, 2] bcast_S1x1x262143_S2x18x262143_0_1_2
      (broadcastInDim S1x1x262143 ![2] bcast_S262143_S1x1x262143_2
        (sitofp .f32 (iotaInDim S262143 32 0) : FVec F S262143 .f32)))
    (broadcastInDim S2x18x262143 ![0, 1, 2] bcast_S2x18x1_S2x18x262143_0_1_2
      (subf (broadcastInDim S2x18x1 ![0, 1] bcast_S2x18_S2x18x1_0_1 n)
        (broadcastInDim S2x18x1 ![] bcast_S_S2x18x1 (constant S_ .f32 0x3F800000#32)))))

/-- The sum of the distances between neighbours. -/
def dist (g : FVec F S2x18x262144 .f32) (n : FVec F S2x18 .f32) : FVec F S2x18 .f32 :=
  Host.reduceAdd
    (mulf (Host.absf (subf (extractStridedSlice S2x18x262143 ![0, 0, 1] g slices_S2x18x262144_S2x18x262143_0_0_1)
      (extractStridedSlice S2x18x262143 ![0, 0, 0] g slices_S2x18x262144_S2x18x262143_0_0_0))) (valid n))
    (constant S_ .f32 0x00000000#32) reducesTo_S2x18x262143_S2x18_d2 h_S_

/-- What each image and class contributes, from the sum of the distances and the pixel count. -/
def contrib (s n : FVec F S2x18 .f32) : FVec F S2x18 .f32 :=
  select (cmpf .oge n (broadcastInDim S2x18 ![] bcast_S_S2x18 (constant S_ .f32 0x40000000#32)))
    (Host.divf
      (Host.divf s (maximumf (subf n (broadcastInDim S2x18 ![] bcast_S_S2x18 (constant S_ .f32 0x3F800000#32)))
        (broadcastInDim S2x18 ![] bcast_S_S2x18 (constant S_ .f32 0x3F800000#32))))
      (addf n (broadcastInDim S2x18 ![] bcast_S_S2x18 (constant S_ .f32 0x3F800000#32))))
    (broadcastInDim S2x18 ![] bcast_S_S2x18 (constant S_ .f32 0x00000000#32))

/-- The loss. -/
def total (t : FVec F S2x18 .f32) : FVec F S_ .f32 :=
  mulf (Host.reduceAdd t (constant S_ .f32 0x00000000#32) reducesTo_S2x18_S_d0_1 h_S_)
    (constant S_ .f32 0x3F800000#32)

/-- The reference's result as a function of the logits. -/
def result (x : FVec F S2x19x512x512 .f32) : FVec F S_ .f32 :=
  total (contrib (dist (gathered (order (mask (seg x)))) (nf (mask (seg x)))) (nf (mask (seg x))))

/-- The reference's operations, in order. -/
abbrev ops : List (HloOp τ sig (Elt F)) :=
  [ nullary main_call0_v0 (iotaInDim S2x19x512x512 32 1),
    nullary main_call0_cst (constant S_ .f32 0xFF800000#32),
    nullary main_call0_c (constantI S_ 32 0#32),
    quaternary main_arg0 main_call0_v0 main_call0_cst main_call0_c main_call0_v1_0 (fun x y u v j => (Host.argReduce reducer_argmax_f32_i32 x y u v reducesTo_S2x19x512x512_S2x512x512_d1 h_S_ j).1),
    quaternary main_arg0 main_call0_v0 main_call0_cst main_call0_c main_v0 (fun x y u v j => (Host.argReduce reducer_argmax_f32_i32 x y u v reducesTo_S2x19x512x512_S2x512x512_d1 h_S_ j).2),
    unary main_v0 main_v1 (shapeCast S2x1x262144 · shapeCasts_S2x512x512_S2x1x262144),
    nullary main_v2 (sitofp .f32 (iotaInDim S512 32 0)),
    unary main_v2 main_v3 (broadcastInDim S512x1 ![0] bcast_S512_S512x1_0),
    nullary main_v4 (sitofp .f32 (iotaInDim S512 32 0)),
    unary main_v4 main_v5 (broadcastInDim S1x512 ![1] bcast_S512_S1x512_1),
    unary main_v5 main_v6 (broadcastInDim S512x512 ![0, 1] bcast_S1x512_S512x512_0_1),
    unary main_v3 main_v7 (broadcastInDim S512x512 ![0, 1] bcast_S512x1_S512x512_0_1),
    binary main_v6 main_v7 main_v8 (subf),
    unary main_v8 main_v9 (shapeCast S262144 · shapeCasts_S512x512_S262144),
    nullary main_v10 (sitofp .f32 (iotaInDim S262143 32 0)),
    nullary main_v11 (iotaInDim S18 32 0),
    nullary main_c (constantI S_ 32 1#32),
    unary main_c main_v12 (broadcastInDim S18 ![] bcast_S_S18),
    binary main_v12 main_v11 main_v13 (addi),
    unary main_v13 main_v14 (shapeCast S1x18x1 · shapeCasts_S18_S1x18x1),
    unary main_v1 main_v15 (broadcastInDim S2x18x262144 ![0, 1, 2] bcast_S2x1x262144_S2x18x262144_0_1_2),
    unary main_v14 main_v16 (broadcastInDim S2x18x262144 ![0, 1, 2] bcast_S1x18x1_S2x18x262144_0_1_2),
    binary main_v15 main_v16 main_v17 (cmpi .eq),
    unary main_v17 main_v18 (uitofp .f32),
    nullary main_cst (constant S_ .f32 0x00000000#32),
    binary main_v18 main_cst main_v19 (fun x v => Host.reduceAdd x v reducesTo_S2x18x262144_S2x18_d2 h_S_),
    nullary main_c_0 (constantI S_ 32 0#32),
    nullary main_c_1 (constantI S_ 32 1#32),
    unary main_c_0 main_call1_v0 (broadcastInDim S2x18x262144 ![] bcast_S_S2x18x262144),
    unary main_c_1 main_call1_v1 (broadcastInDim S2x18x262144 ![] bcast_S_S2x18x262144),
    ternary main_v17 main_call1_v0 main_call1_v1 main_v20 select,
    nullary main_call2_v0 (iotaInDim S2x18x262144 32 2),
    binary main_v20 main_call2_v0 main_call2_v1_0 (fun x y => (Host.sort2 S2x18x262144 2 comparator_i32_i32_d2 x y).1),
    binary main_v20 main_call2_v0 main_v21 (fun x y => (Host.sort2 S2x18x262144 2 comparator_i32_i32_d2 x y).2),
    nullary main_c_2 (constantI S_ 32 0#32),
    unary main_c_2 main_v22 (broadcastInDim S2x18x262144 ![] bcast_S_S2x18x262144),
    binary main_v21 main_v22 main_v23 (cmpi .slt),
    nullary main_c_3 (constantI S_ 32 262144#32),
    unary main_c_3 main_v24 (broadcastInDim S2x18x262144 ![] bcast_S_S2x18x262144),
    binary main_v21 main_v24 main_v25 (addi),
    ternary main_v23 main_v25 main_v21 main_v26 (select),
    unary main_v26 main_v27 (broadcastInDim S2x18x262144x1 ![0, 1, 2] bcast_S2x18x262144_S2x18x262144x1_0_1_2),
    binary main_v9 main_v27 main_v28 (fun x i => Host.gather gather_S262144_S2x18x262144x1_S2x18x262144_n_0_n_n_0_3_1 x i),
    unary main_v28 main_v29 (extractStridedSlice S2x18x262143 ![0, 0, 1] · slices_S2x18x262144_S2x18x262143_0_0_1),
    unary main_v28 main_v30 (extractStridedSlice S2x18x262143 ![0, 0, 0] · slices_S2x18x262144_S2x18x262143_0_0_0),
    binary main_v29 main_v30 main_v31 (subf),
    unary main_v19 main_v32 (broadcastInDim S2x18x1 ![0, 1] bcast_S2x18_S2x18x1_0_1),
    nullary main_cst_4 (constant S_ .f32 0x3F800000#32),
    unary main_cst_4 main_v33 (broadcastInDim S2x18x1 ![] bcast_S_S2x18x1),
    binary main_v32 main_v33 main_v34 (subf),
    unary main_v10 main_v35 (broadcastInDim S1x1x262143 ![2] bcast_S262143_S1x1x262143_2),
    unary main_v35 main_v36 (broadcastInDim S2x18x262143 ![0, 1, 2] bcast_S1x1x262143_S2x18x262143_0_1_2),
    unary main_v34 main_v37 (broadcastInDim S2x18x262143 ![0, 1, 2] bcast_S2x18x1_S2x18x262143_0_1_2),
    binary main_v36 main_v37 main_v38 (cmpf .olt),
    unary main_v38 main_v39 (uitofp .f32),
    unary main_v31 main_v40 (Host.absf),
    binary main_v40 main_v39 main_v41 (mulf),
    nullary main_cst_5 (constant S_ .f32 0x00000000#32),
    binary main_v41 main_cst_5 main_v42 (fun x v => Host.reduceAdd x v reducesTo_S2x18x262143_S2x18_d2 h_S_),
    nullary main_cst_6 (constant S_ .f32 0x3F800000#32),
    unary main_cst_6 main_v43 (broadcastInDim S2x18 ![] bcast_S_S2x18),
    binary main_v19 main_v43 main_v44 (subf),
    nullary main_cst_7 (constant S_ .f32 0x3F800000#32),
    unary main_cst_7 main_v45 (broadcastInDim S2x18 ![] bcast_S_S2x18),
    binary main_v44 main_v45 main_v46 (maximumf),
    binary main_v42 main_v46 main_v47 (Host.divf),
    nullary main_cst_8 (constant S_ .f32 0x40000000#32),
    unary main_cst_8 main_v48 (broadcastInDim S2x18 ![] bcast_S_S2x18),
    binary main_v19 main_v48 main_v49 (cmpf .oge),
    nullary main_cst_9 (constant S_ .f32 0x3F800000#32),
    unary main_cst_9 main_v50 (broadcastInDim S2x18 ![] bcast_S_S2x18),
    binary main_v19 main_v50 main_v51 (addf),
    binary main_v47 main_v51 main_v52 (Host.divf),
    nullary main_cst_10 (constant S_ .f32 0x00000000#32),
    unary main_cst_10 main_call3_v0 id,
    unary main_call3_v0 main_call3_v1 (broadcastInDim S2x18 ![] bcast_S_S2x18),
    ternary main_v49 main_v52 main_call3_v1 main_v53 select,
    nullary main_cst_11 (constant S_ .f32 0x00000000#32),
    binary main_v53 main_cst_11 main_v54 (fun x v => Host.reduceAdd x v reducesTo_S2x18_S_d0_1 h_S_),
    nullary main_cst_12 (constant S_ .f32 0x3F800000#32),
    binary main_v54 main_cst_12 main_v55 (mulf) ]

/-- The program is that straight line. -/
theorem main_eq (c : Dev nD) : main (F := F) c = seq ops := by
  chain_rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

/-- Every operation touches only buffers of the TensorCore. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub
    .., unary_bufs_sub .., nullary_bufs_sub .., unary_bufs_sub .., nullary_bufs_sub .., unary_bufs_sub ..,
    unary_bufs_sub .., unary_bufs_sub .., binary_bufs_sub .., unary_bufs_sub .., nullary_bufs_sub ..,
    nullary_bufs_sub .., nullary_bufs_sub .., unary_bufs_sub .., binary_bufs_sub .., unary_bufs_sub ..,
    unary_bufs_sub .., unary_bufs_sub .., binary_bufs_sub .., unary_bufs_sub .., nullary_bufs_sub ..,
    binary_bufs_sub .., nullary_bufs_sub .., nullary_bufs_sub .., unary_bufs_sub .., unary_bufs_sub ..,
    ternary_bufs_sub .., nullary_bufs_sub .., binary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., unary_bufs_sub .., unary_bufs_sub ..,
    binary_bufs_sub .., unary_bufs_sub .., nullary_bufs_sub .., unary_bufs_sub .., binary_bufs_sub ..,
    unary_bufs_sub .., unary_bufs_sub .., unary_bufs_sub .., binary_bufs_sub .., unary_bufs_sub ..,
    unary_bufs_sub .., binary_bufs_sub .., nullary_bufs_sub .., binary_bufs_sub .., nullary_bufs_sub ..,
    unary_bufs_sub .., binary_bufs_sub .., nullary_bufs_sub .., unary_bufs_sub .., binary_bufs_sub ..,
    binary_bufs_sub .., nullary_bufs_sub .., unary_bufs_sub .., binary_bufs_sub .., nullary_bufs_sub ..,
    unary_bufs_sub .., binary_bufs_sub .., binary_bufs_sub .., nullary_bufs_sub .., unary_bufs_sub ..,
    unary_bufs_sub .., ternary_bufs_sub .., nullary_bufs_sub .., binary_bufs_sub .., nullary_bufs_sub ..,
    binary_bufs_sub ..⟩

/-- The last buffer after all operations is `result` of the logits. -/
theorem result_eq (V : Valuation τ sig (Elt F)) :
    after ops V (main_v55 : DevRef τ sig) = result (V (main_arg0 : DevRef τ sig)) := by
  after_results
  rfl

/-- No operation writes the logits. -/
theorem arg0_eq (V : Valuation τ sig (Elt F)) :
    after ops V (main_arg0 : DevRef τ sig) = V (main_arg0 : DevRef τ sig) := by
  after_results

/-- No operation writes the labels. -/
theorem arg1_eq (V : Valuation τ sig (Elt F)) :
    after ops V (main_arg1 : DevRef τ sig) = V (main_arg1 : DevRef τ sig) := by
  after_results

/-- The reference runs, its result is `result` of the logits, and its arguments end unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v55) = result (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v55).trans (result_eq _), (h c main_arg0).trans (arg0_eq _),
      (h c main_arg1).trans (arg1_eq _)⟩)
    (run_seq scopedRefs_eq scopedSems_eq defs main (fun _ => ops) main_eq (fun _ => ops_sub) m ρ)

/-- The reference's frame: it runs, its arguments end unchanged, and every counter ends at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  (θ_run defs _ _).mono (fun r h => ⟨fun c => (h c).2, sem_eq_zero_of_no_sems (by decide) r.2⟩) (run m ρ)

end Cert.Proof.Ref

end
-- ==== Proof.Block.lean ====
module

public import proofs.«01_k».proof.Proof.Gen.KernelIdeal.Frame
public import Idealize.ShloMosaic.Lib.Pipeline.ValueKit
public import Idealize.ShloMosaic.Lib.Pipeline.ReadBack

/-! What one grid point of the kernel computes, as functions of its block of logits and of the four carried
    vectors: the class of every pixel, per row and class the number of pixels and the first and last column, the
    last value seen so far by doubling shifts, and the new contents of the four carried vectors. -/

@[expose] public section

set_option maxRecDepth 16384

noncomputable section

namespace Cert.Proof.Block

open Cert.KernelIdeal Cert.KernelIdeal.Gen
open Idealize.ShloMosaic Idealize.ShloMosaic.TcCoe Idealize.SL.Sem

variable {F : FTy → Type} [FloatOps F]

/-- The class of every pixel of the block: the kernel's chain of comparisons over the nineteen planes. -/
def seg (x : Vec F S1x19x128x512 .f32) : IVec S128x512 32 :=
  have v3 : Vec F S1x1x128x512 .f32 := (View.ld x (Rect.unit ![0, 0, 0, 0] ![1, 1, 128, 512] inb_S1x19x128x512_S1x1x128x512_0_0_0_0))
  have v6 : Vec F S1x1x128x512 .f32 := (View.ld x (Rect.unit ![0, 1, 0, 0] ![1, 1, 128, 512] inb_S1x19x128x512_S1x1x128x512_0_1_0_0))
  have v12 : Vec F S1x1x128x512 .f32 := (View.ld x (Rect.unit ![0, 2, 0, 0] ![1, 1, 128, 512] inb_S1x19x128x512_S1x1x128x512_0_2_0_0))
  have v18 : Vec F S1x1x128x512 .f32 := (View.ld x (Rect.unit ![0, 3, 0, 0] ![1, 1, 128, 512] inb_S1x19x128x512_S1x1x128x512_0_3_0_0))
  have v24 : Vec F S1x1x128x512 .f32 := (View.ld x (Rect.unit ![0, 4, 0, 0] ![1, 1, 128, 512] inb_S1x19x128x512_S1x1x128x512_0_4_0_0))
  have v30 : Vec F S1x1x128x512 .f32 := (View.ld x (Rect.unit ![0, 5, 0, 0] ![1, 1, 128, 512] inb_S1x19x128x512_S1x1x128x512_0_5_0_0))
  have v36 : Vec F S1x1x128x512 .f32 := (View.ld x (Rect.unit ![0, 6, 0, 0] ![1, 1, 128, 512] inb_S1x19x128x512_S1x1x128x512_0_6_0_0))
  have v42 : Vec F S1x1x128x512 .f32 := (View.ld x (Rect.unit ![0, 7, 0, 0] ![1, 1, 128, 512] inb_S1x19x128x512_S1x1x128x512_0_7_0_0))
  have v48 : Vec F S1x1x128x512 .f32 := (View.ld x (Rect.unit ![0, 8, 0, 0] ![1, 1, 128, 512] inb_S1x19x128x512_S1x1x128x512_0_8_0_0))
  have v54 : Vec F S1x1x128x512 .f32 := (View.ld x (Rect.unit ![0, 9, 0, 0] ![1, 1, 128, 512] inb_S1x19x128x512_S1x1x128x512_0_9_0_0))
  have v60 : Vec F S1x1x128x512 .f32 := (View.ld x (Rect.unit ![0, 10, 0, 0] ![1, 1, 128, 512] inb_S1x19x128x512_S1x1x128x512_0_10_0_0))
  have v66 : Vec F S1x1x128x512 .f32 := (View.ld x (Rect.unit ![0, 11, 0, 0] ![1, 1, 128, 512] inb_S1x19x128x512_S1x1x128x512_0_11_0_0))
  have v72 : Vec F S1x1x128x512 .f32 := (View.ld x (Rect.unit ![0, 12, 0, 0] ![1, 1, 128, 512] inb_S1x19x128x512_S1x1x128x512_0_12_0_0))
  have v78 : Vec F S1x1x128x512 .f32 := (View.ld x (Rect.unit ![0, 13, 0, 0] ![1, 1, 128, 512] inb_S1x19x128x512_S1x1x128x512_0_13_0_0))
  have v84 : Vec F S1x1x128x512 .f32 := (View.ld x (Rect.unit ![0, 14, 0, 0] ![1, 1, 128, 512] inb_S1x19x128x512_S1x1x128x512_0_14_0_0))
  have v90 : Vec F S1x1x128x512 .f32 := (View.ld x (Rect.unit ![0, 15, 0, 0] ![1, 1, 128, 512] inb_S1x19x128x512_S1x1x128x512_0_15_0_0))
  have v96 : Vec F S1x1x128x512 .f32 := (View.ld x (Rect.unit ![0, 16, 0, 0] ![1, 1, 128, 512] inb_S1x19x128x512_S1x1x128x512_0_16_0_0))
  have v102 : Vec F S1x1x128x512 .f32 := (View.ld x (Rect.unit ![0, 17, 0, 0] ![1, 1, 128, 512] inb_S1x19x128x512_S1x1x128x512_0_17_0_0))
  have v108 : Vec F S1x1x128x512 .f32 := (View.ld x (Rect.unit ![0, 18, 0, 0] ![1, 1, 128, 512] inb_S1x19x128x512_S1x1x128x512_0_18_0_0))
  have v27 : FVec F S128x512 .f32 := k0_pay21 v3 v6 v12 v18 v24
  have v29 : IVec S128x512 32 := k0_pay22 v3 v6 v12 v18 v24
  have v57 : FVec F S128x512 .f32 := k0_pay37 v27 v30 v36 v42 v48 v54
  have v59 : IVec S128x512 32 := k0_pay38 v27 v29 v30 v36 v42 v48 v54
  have v89 : IVec S128x512 32 := k0_pay54 v57 v59 v60 v66 v72 v78 v84
  have v92 : IVec S128x512 1 := k0_pay56 v57 v60 v66 v72 v78 v84 v90
  have v93 : FVec F S128x512 .f32 := k0_pay57 v57 v60 v66 v72 v78 v84 v90
  k0_pay59 v89 v92 v93 k0_pay58 v96 v102 v108

/-- Where the class is `q`. -/
def hit (g : IVec S128x512 32) (q : BitVec 32) : IVec S128x512 1 := cmpi .eq g (broadcast S128x512 q)

/-- The column of every pixel, as a number. -/
def colNo : FVec F S128x512 .f32 := sitofp .f32 (iota .tc S128x512 32 [1] iota_S128x512_d1_w32)

/-- Row by row, the number of pixels of class `q`. -/
def cntC (g : IVec S128x512 32) (q : BitVec 32) : FVec F S128x1 .f32 :=
  shapeCast S128x1 (multiReduction .add [1] S128
    (select (hit g q) (broadcast S128x512 (Scalar.ofBits .f32 0x3F800000#32 : F .f32))
      (broadcast S128x512 (Scalar.ofBits .f32 0x00000000#32 : F .f32)))
    0x00000000#32 reduces_S128x512_S128 (.inl rfl) rfl) shapeCasts_S128_S128x1

/-- Row by row, the first column of class `q` (512 if there is none). -/
def fstC (g : IVec S128x512 32) (q : BitVec 32) : FVec F S128x1 .f32 :=
  shapeCast S128x1 (multiReduction .minimumf [1] S128
    (select (hit g q) colNo (broadcast S128x512 (Scalar.ofBits .f32 0x44000000#32 : F .f32)))
    0x7F800000#32 reduces_S128x512_S128 (.inl rfl) rfl) shapeCasts_S128_S128x1

/-- Row by row, the last column of class `q` (−1 if there is none). -/
def lstC (g : IVec S128x512 32) (q : BitVec 32) : FVec F S128x1 .f32 :=
  shapeCast S128x1 (multiReduction .maximumf [1] S128
    (select (hit g q) colNo (broadcast S128x512 (Scalar.ofBits .f32 0xBF800000#32 : F .f32)))
    0xFF800000#32 reduces_S128x512_S128 (.inl rfl) rfl) shapeCasts_S128_S128x1

/-- Eighteen columns, one for each class from 1, side by side, and zeros in the other lanes. -/
def cat (f : BitVec 32 → FVec F S128x1 .f32) : FVec F S128x128 .f32 :=
  concatenate S128x128 1
    [⟨S128x1, f 1#32⟩, ⟨S128x1, f 2#32⟩, ⟨S128x1, f 3#32⟩, ⟨S128x1, f 4#32⟩, ⟨S128x1, f 5#32⟩, ⟨S128x1, f 6#32⟩, ⟨S128x1, f 7#32⟩, ⟨S128x1, f 8#32⟩, ⟨S128x1, f 9#32⟩, ⟨S128x1, f 10#32⟩, ⟨S128x1, f 11#32⟩, ⟨S128x1, f 12#32⟩, ⟨S128x1, f 13#32⟩, ⟨S128x1, f 14#32⟩, ⟨S128x1, f 15#32⟩, ⟨S128x1, f 16#32⟩, ⟨S128x1, f 17#32⟩, ⟨S128x1, f 18#32⟩,
      ⟨S128x110, broadcast S128x110 (Scalar.ofBits .f32 0x00000000#32 : F .f32)⟩]
    concatenates_S128x1_S128x1_S128x1_S128x1_S128x1_S128x1_S128x1_S128x1_S128x1_S128x1_S128x1_S128x1_S128x1_S128x1_S128x1_S128x1_S128x1_S128x1_S128x110_S128x128_d1

/-- One where a row holds a pixel of the lane's class, zero elsewhere. -/
def present (c : FVec F S128x128 .f32) : FVec F S128x128 .f32 :=
  sitofp .f32 (extui 32 (cmpf .ogt c (broadcast S128x128 (Scalar.ofBits .f32 0x00000000#32 : F .f32))) natLt_1_32)

/-- The sum down the rows, as one row. -/
def colSum (x : FVec F S128x128 .f32) : FVec F S1x128 .f32 :=
  shapeCast S1x128 (multiReduction .add [0] S128 x 0x00000000#32 reduces_S128x128_S128 (.inl rfl) rfl)
    shapeCasts_S128_S1x128

/-- The rows moved down by 1, zeros coming in at the top. -/
def down1 (x : FVec F S128x128 .f32) : FVec F S128x128 .f32 :=
  concatenate S128x128 0 [⟨S1x128, broadcast S1x128 (Scalar.ofBits .f32 0x00000000#32 : F .f32)⟩,
    ⟨S127x128, extractStridedSlice S127x128 ![0, 0] x slices_S128x128_o0_0_S127x128⟩]
    concatenates_S1x128_S127x128_S128x128_d0

/-- The rows moved down by 2, zeros coming in at the top. -/
def down2 (x : FVec F S128x128 .f32) : FVec F S128x128 .f32 :=
  concatenate S128x128 0 [⟨S2x128, broadcast S2x128 (Scalar.ofBits .f32 0x00000000#32 : F .f32)⟩,
    ⟨S126x128, extractStridedSlice S126x128 ![0, 0] x slices_S128x128_o0_0_S126x128⟩]
    concatenates_S2x128_S126x128_S128x128_d0

/-- The rows moved down by 4, zeros coming in at the top. -/
def down4 (x : FVec F S128x128 .f32) : FVec F S128x128 .f32 :=
  concatenate S128x128 0 [⟨S4x128, broadcast S4x128 (Scalar.ofBits .f32 0x00000000#32 : F .f32)⟩,
    ⟨S124x128, extractStridedSlice S124x128 ![0, 0] x slices_S128x128_o0_0_S124x128⟩]
    concatenates_S4x128_S124x128_S128x128_d0

/-- The rows moved down by 8, zeros coming in at the top. -/
def down8 (x : FVec F S128x128 .f32) : FVec F S128x128 .f32 :=
  concatenate S128x128 0 [⟨S8x128, broadcast S8x128 (Scalar.ofBits .f32 0x00000000#32 : F .f32)⟩,
    ⟨S120x128, extractStridedSlice S120x128 ![0, 0] x slices_S128x128_o0_0_S120x128⟩]
    concatenates_S8x128_S120x128_S128x128_d0

/-- The rows moved down by 16, zeros coming in at the top. -/
def down16 (x : FVec F S128x128 .f32) : FVec F S128x128 .f32 :=
  concatenate S128x128 0 [⟨S16x128, broadcast S16x128 (Scalar.ofBits .f32 0x00000000#32 : F .f32)⟩,
    ⟨S112x128, extractStridedSlice S112x128 ![0, 0] x slices_S128x128_o0_0_S112x128⟩]
    concatenates_S16x128_S112x128_S128x128_d0

/-- The rows moved down by 32, zeros coming in at the top. -/
def down32 (x : FVec F S128x128 .f32) : FVec F S128x128 .f32 :=
  concatenate S128x128 0 [⟨S32x128, broadcast S32x128 (Scalar.ofBits .f32 0x00000000#32 : F .f32)⟩,
    ⟨S96x128, extractStridedSlice S96x128 ![0, 0] x slices_S128x128_o0_0_S96x128⟩]
    concatenates_S32x128_S96x128_S128x128_d0

/-- The rows moved down by 64, zeros coming in at the top. -/
def down64 (x : FVec F S128x128 .f32) : FVec F S128x128 .f32 :=
  concatenate S128x128 0 [⟨S64x128, broadcast S64x128 (Scalar.ofBits .f32 0x00000000#32 : F .f32)⟩,
    ⟨S64x128, extractStridedSlice S64x128 ![0, 0] x slices_S128x128_o0_0_S64x128⟩]
    concatenates_S64x128_S64x128_S128x128_d0

/-- The first where the flag is positive, the second elsewhere. -/
def pick (fv a b : FVec F S128x128 .f32) : FVec F S128x128 .f32 :=
  select (cmpf .ogt fv (broadcast S128x128 (Scalar.ofBits .f32 0x00000000#32 : F .f32))) a b

/-- The flags after the shift by 1: a row among the last 2 holds a value. -/
def flag2 (e : FVec F S128x128 .f32) : FVec F S128x128 .f32 := maximumf e (down1 e)

/-- The flags after the shift by 2: a row among the last 4 holds a value. -/
def flag4 (e : FVec F S128x128 .f32) : FVec F S128x128 .f32 := maximumf (flag2 e) (down2 (flag2 e))

/-- The flags after the shift by 4: a row among the last 8 holds a value. -/
def flag8 (e : FVec F S128x128 .f32) : FVec F S128x128 .f32 := maximumf (flag4 e) (down4 (flag4 e))

/-- The flags after the shift by 8: a row among the last 16 holds a value. -/
def flag16 (e : FVec F S128x128 .f32) : FVec F S128x128 .f32 := maximumf (flag8 e) (down8 (flag8 e))

/-- The flags after the shift by 16: a row among the last 32 holds a value. -/
def flag32 (e : FVec F S128x128 .f32) : FVec F S128x128 .f32 := maximumf (flag16 e) (down16 (flag16 e))

/-- The flags after the shift by 32: a row among the last 64 holds a value. -/
def flag64 (e : FVec F S128x128 .f32) : FVec F S128x128 .f32 := maximumf (flag32 e) (down32 (flag32 e))

/-- The flags after the shift by 64: a row among the last 128 holds a value. -/
def flag128 (e : FVec F S128x128 .f32) : FVec F S128x128 .f32 := maximumf (flag64 e) (down64 (flag64 e))

/-- The values after the shift by 1: the last value among the last 2 rows. -/
def last2 (e f : FVec F S128x128 .f32) : FVec F S128x128 .f32 := pick e f (down1 f)

/-- The values after the shift by 2: the last value among the last 4 rows. -/
def last4 (e f : FVec F S128x128 .f32) : FVec F S128x128 .f32 := pick (flag2 e) (last2 e f) (down2 (last2 e f))

/-- The values after the shift by 4: the last value among the last 8 rows. -/
def last8 (e f : FVec F S128x128 .f32) : FVec F S128x128 .f32 := pick (flag4 e) (last4 e f) (down4 (last4 e f))

/-- The values after the shift by 8: the last value among the last 16 rows. -/
def last16 (e f : FVec F S128x128 .f32) : FVec F S128x128 .f32 := pick (flag8 e) (last8 e f) (down8 (last8 e f))

/-- The values after the shift by 16: the last value among the last 32 rows. -/
def last32 (e f : FVec F S128x128 .f32) : FVec F S128x128 .f32 := pick (flag16 e) (last16 e f) (down16 (last16 e f))

/-- The values after the shift by 32: the last value among the last 64 rows. -/
def last64 (e f : FVec F S128x128 .f32) : FVec F S128x128 .f32 := pick (flag32 e) (last32 e f) (down32 (last32 e f))

/-- The values after the shift by 64: the last value among the last 128 rows. -/
def last128 (e f : FVec F S128x128 .f32) : FVec F S128x128 .f32 := pick (flag64 e) (last64 e f) (down64 (last64 e f))

/-- Per row and class, the number of pixels. -/
def cnt (x : Vec F S1x19x128x512 .f32) : FVec F S128x128 .f32 := cat (cntC (seg x))
/-- Per row and class, the first column. -/
def fst (x : Vec F S1x19x128x512 .f32) : FVec F S128x128 .f32 := cat (fstC (seg x))
/-- Per row and class, the last column. -/
def lst (x : Vec F S1x19x128x512 .f32) : FVec F S128x128 .f32 := cat (lstC (seg x))
/-- Per row and class, one if there is a pixel. -/
def ex (x : Vec F S1x19x128x512 .f32) : FVec F S128x128 .f32 := present (cnt x)

/-- The number of each row in the image, in block `a`. -/
def rowNo (a : BitVec 32) : FVec F S128x128 .f32 :=
  sitofp .f32 (addi (broadcast S128x128 (Scalar.muli a 128#32)) (iota .tc S128x128 32 [0] iota_S128x128_d0_w32))

/-- The value of a row's last pixel, zero where there is none. -/
def lastV (x : Vec F S1x19x128x512 .f32) (a : BitVec 32) : FVec F S128x128 .f32 := mulf (ex x) (subf (lst x) (rowNo a))

/-- The last value up to each row of the block. -/
def scanF (x : Vec F S1x19x128x512 .f32) (a : BitVec 32) : FVec F S128x128 .f32 := last128 (ex x) (lastV x a)
/-- Whether there is a value up to each row of the block. -/
def scanV (x : Vec F S1x19x128x512 .f32) : FVec F S128x128 .f32 := flag128 (ex x)

/-- The distances within the rows, summed. -/
def within (x : Vec F S1x19x128x512 .f32) : FVec F S1x128 .f32 := colSum (mulf (ex x) (subf (lst x) (fst x)))

/-- The distances from row to row, summed. -/
def cross (x : Vec F S1x19x128x512 .f32) (a : BitVec 32) (h v : FVec F S1x128 .f32) : FVec F S1x128 .f32 :=
  colSum (mulf (mulf (ex x) (maximumf (down1 (scanV x))
      (broadcastTo S128x128 (shapeCast S1x128 h shapeCasts_S1x128_S1x128) broadcasts_S1x128_S128x128)))
    (absf (subf (subf (fst x) (rowNo a))
      (pick (down1 (scanV x)) (down1 (scanF x a))
        (broadcastTo S128x128 (shapeCast S1x128 v shapeCasts_S1x128_S1x128) broadcasts_S1x128_S128x128)))))

/-- The new sum. -/
def newS (x : Vec F S1x19x128x512 .f32) (a : BitVec 32) (s h v : FVec F S1x128 .f32) : FVec F S1x128 .f32 :=
  shapeCast S1x128 (addf s (addf (within x) (cross x a h v))) shapeCasts_S1x128_S1x128
/-- The new count. -/
def newN (x : Vec F S1x19x128x512 .f32) (n : FVec F S1x128 .f32) : FVec F S1x128 .f32 :=
  shapeCast S1x128 (addf n (colSum (cnt x))) shapeCasts_S1x128_S1x128
/-- The last row. -/
def lastRow (x : FVec F S128x128 .f32) : FVec F S1x128 .f32 :=
  extractStridedSlice S1x128 ![127, 0] x slices_S128x128_o127_0_S1x128
/-- Whether a value has been seen. -/
def newH (x : Vec F S1x19x128x512 .f32) (h : FVec F S1x128 .f32) : FVec F S1x128 .f32 :=
  shapeCast S1x128 (maximumf h (lastRow (scanV x))) shapeCasts_S1x128_S1x128
/-- The last value seen. -/
def newV (x : Vec F S1x19x128x512 .f32) (a : BitVec 32) (v : FVec F S1x128 .f32) : FVec F S1x128 .f32 :=
  shapeCast S1x128 (select (cmpf .ogt (lastRow (scanV x))
    (broadcast S1x128 (Scalar.ofBits .f32 0x00000000#32 : F .f32))) (lastRow (scanF x a)) v) shapeCasts_S1x128_S1x128
/-- A vector of zeros. -/
def zeros : FVec F S1x128 .f32 :=
  shapeCast S1x128 (broadcast S1x128 (Scalar.ofBits .f32 0x00000000#32 : F .f32)) shapeCasts_S1x128_S1x128
/-- What one image adds to the output. -/
def part (n s : FVec F S1x128 .f32) : F .f32 := k0_pay3 n s

end Cert.Proof.Block

end
-- ==== Proof.Points.lean ====
module

public import proofs.«01_k».proof.Proof.Block

/-! What every grid point leaves in the output and in the carried vectors, from what the point before left. -/

@[expose] public section

set_option maxRecDepth 16384

noncomputable section

namespace Cert.Proof.Points

open Cert.KernelIdeal Cert.KernelIdeal.Gen Cert.Proof.Block
open Idealize.ShloMosaic Idealize.ShloMosaic.TcCoe Idealize.SL.Sem

variable (m : (ℓ : Loc nD τ sig) → Buf (Elt Ideal) ℓ)

/-- What the point before `t` left. -/
abbrev prev (c : Dev nD) (t : Fin cfg0.N) :=
  outsAt0 m c (t.val - 1) (Nat.lt_of_le_of_lt (Nat.sub_le _ _) t.isLt)

/-- The block number of point `t` within its image. -/
abbrev blockNo (t : Fin cfg0.N) : BitVec 32 := BitVec.ofNat 32 (grid0.coords t 1).val

/-- The block of logits point `t` reads. -/
abbrev blk (c : Dev nD) (t : Fin cfg0.N) : Vec Ideal S1x19x128x512 .f32 := iblk m c 0 t

/-- The four carried vectors after a point that found `s`, `n`, `h`, `v` in them. -/
def step (x : Vec Ideal S1x19x128x512 .f32) (a : BitVec 32)
    (p : Vec Ideal S1x128 .f32 × Vec Ideal S1x128 .f32 × Vec Ideal S1x128 .f32 × Vec Ideal S1x128 .f32) :
    Vec Ideal S1x128 .f32 × Vec Ideal S1x128 .f32 × Vec Ideal S1x128 .f32 × Vec Ideal S1x128 .f32 :=
  (newS (F := Ideal) x a p.1 p.2.2.1 p.2.2.2, newN (F := Ideal) x p.2.1, newH (F := Ideal) x p.2.2.1,
    newV (F := Ideal) x a p.2.2.2)

/-- A point in the middle of an image. -/
theorem at_B (c : Dev nD) (t : Fin cfg0.N) (h0 : ¬t.val % 4 = 0) (h1 : ¬t.val % 4 = 3) :
    outsAt0 m c t.val t.isLt = ((prev m c t).1, step (blk m c t) (blockNo t) (prev m c t).2) := by
  rw [outsAt0_B m c t h0 h1]
  frame_out [read_unread_whole]
  rfl

/-- An image's first point: it starts from zeros. -/
theorem at_A (c : Dev nD) (t : Fin cfg0.N) (h0 : t.val % 4 = 0) (h1 : ¬t.val % 4 = 3) :
    (outsAt0 m c t.val t.isLt).2 =
      step (blk m c t) (blockNo t) (zeros (F := Ideal), zeros (F := Ideal), zeros (F := Ideal), zeros (F := Ideal)) := by
  rw [outsAt0_A m c t h0 h1]
  frame_out [read_unread_whole]
  rfl

/-- An image's first point leaves the output alone. -/
theorem at_A_out (c : Dev nD) (t : Fin cfg0.N) (h0 : t.val % 4 = 0) (h1 : ¬t.val % 4 = 3) (h : 0 < t.val) :
    (outsAt0 m c t.val t.isLt).1 = (prev m c t).1 := by
  rw [outsAt0_A m c t h0 h1]
  frame_out [read_unread_whole]
  rfl

/-- The first image's last point sets the output. -/
theorem at_C (c : Dev nD) (t : Fin cfg0.N) (h0 : ¬t.val % 4 = 0) (h1 : t.val % 4 = 3) (h2 : t.val < 4)
    (h3 : ¬4 ≤ t.val) :
    outsAt0 m c t.val t.isLt =
      ((fun _ => part (F := Ideal) (step (blk m c t) (blockNo t) (prev m c t).2).2.1
        (step (blk m c t) (blockNo t) (prev m c t).2).1), step (blk m c t) (blockNo t) (prev m c t).2) := by
  rw [outsAt0_C m c t h0 h1 h2 h3]
  frame_out [read_unread_whole]
  rfl

/-- The second image's last point adds to the output. -/
theorem at_D (c : Dev nD) (t : Fin cfg0.N) (h0 : ¬t.val % 4 = 0) (h1 : t.val % 4 = 3) (h2 : ¬t.val < 4)
    (h3 : 4 ≤ t.val) :
    outsAt0 m c t.val t.isLt =
      ((fun _ => ((prev m c t).1 (ix2 0 0) : EReal) + (part (F := Ideal) (step (blk m c t) (blockNo t) (prev m c t).2).2.1
        (step (blk m c t) (blockNo t) (prev m c t).2).1 : EReal)), step (blk m c t) (blockNo t) (prev m c t).2) := by
  rw [outsAt0_D m c t h0 h1 h2 h3]
  frame_out [read_unread_whole]
  refine Prod.ext (funext fun j => ?_) rfl
  refine congrArg₂ (fun a b : EReal => a + b) ?_ rfl
  refine congrArg (prev m c t).1 (funext fun a => ?_)
  fin_cases a <;> exact Subsingleton.elim (α := Fin 1) _ _

end Cert.Proof.Points

end
-- ==== Proof.KernelRun.lean ====
module

public import proofs.«01_k».proof.Proof.Points
public import Idealize.ShloMosaic.Lib.Pipeline.FrameSuffix

/-! The kernel program's run: what its result holds when it has ended, and what a block of logits holds. -/

@[expose] public section

set_option maxRecDepth 16384

noncomputable section

namespace Cert.Proof.KernelRun

open Cert.KernelIdeal Cert.KernelIdeal.Gen Cert.Proof.Points
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last grid point. -/
abbrev t7 : Fin cfg0.N := ⟨7, by decide⟩

/-- The output array at the end of the launch: what the last point left in it. -/
theorem arr_out (c : Dev nD) : (dats m 0 c).arrAt 1 (cfgs 0).N = (outsAt0 m c 7 (by decide)).1 := by
  refine (dats m 0 c).arrAt_eq_of_after_last 1 t7 (by decide +kernel) _ fun j => ?_
  rfl

/-- The program's result buffer after its last host operation, the reshape to a scalar. -/
theorem tail (c : Dev nD) (i : S_.Idx) :
    Pipeline.afterTail₀ cfgs (dats m) 0 (V0 m) [hostOps1] c main_v1 i = (outsAt0 m c 7 (by decide)).1 (ix2 0 0) := by
  have e : Pipeline.withArrays (cfgs 0).spec c (V0 m c) (fun w => (dats m 0 c).arrAt w (cfgs 0).N) (Proc.tc.devRef main_v0)
      = (outsAt0 m c 7 (by decide)).1 :=
    (Pipeline.withArrays_arr (cfgs 0).spec (by decide) c (V0 m c) (fun w => (dats m 0 c).arrAt w (cfgs 0).N) 1).trans
      (arr_out m c)
  unfold Pipeline.afterTail₀
  simp only [List.flatten_cons, List.flatten_nil, List.append_nil]
  unfold hostOps1
  after_results
  rw [e]
  refine congrArg (outsAt0 m c 7 _).1 (funext fun a => ?_)
  fin_cases a <;> exact Subsingleton.elim (α := Fin 1) _ _

/-- The run: the result buffer holds what the last point left in the output. -/
theorem run : θ_run defs (onTc (τ := τ) (main (F := Ideal))) ⟨m, fun _ => 0, ρ⟩ (fun r => ∀ c : Dev nD,
    (∀ i, r.2.mem ((c.tc : Thread nD τ).loc main_v1) i = (outsAt0 m c 7 (by decide)).1 (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono ?_ (θ_run_and (unchanged m ρ) (run_main m ρ))
  intro r h c
  refine ⟨fun i => ?_, h.1 c⟩
  rw [h.2.rest_eq c main_v1 (by decide)]
  exact tail m c i

/-- The block a point reads: its image, all planes, its quarter of the rows, all columns. -/
theorem index0 : ∀ t : Fin cfg0.N, win0_0.index t = ![t.val / 4, 0, t.val % 4, 0] :=
  (by decide +kernel : ∀ t : Fin grid0.N, _)

/-- There are eight points. -/
theorem N_eq : cfg0.N = 8 := rfl

/-- A block of logits, read off the argument. -/
theorem blk_apply (c : Dev nD) (t : Fin cfg0.N) (u : Fin 1) (q : Fin 19) (r : Fin 128) (w : Fin 512) :
    blk m c t (ix4 u q r w) =
      m ((c.tc : Thread nD τ).loc main_arg0)
        (ix4 ⟨t.val / 4, by have := t.isLt; have := N_eq; omega⟩ q ⟨128 * (t.val % 4) + r.val, by omega⟩ w : S2x19x512x512.Idx) := by
  blk_simp [iblk, V, index0]
  refine congrArg _ ?_
  blk_ext [index0]

/-- The block number of a point. -/
theorem blockNo_eq (t : Fin cfg0.N) : blockNo t = BitVec.ofNat 32 (t.val % 4) := by
  revert t; decide +kernel

end Cert.Proof.KernelRun

end
-- ==== Proof.Class.lean ====
module

public import proofs.«01_k».proof.Proof.Block
public import Idealize.ShloMosaic.Lib.Pointwise

/-! The class of a pixel: the least index of a largest logit. The kernel's chain of comparisons computes it. -/

@[expose] public section

set_option maxRecDepth 16384

noncomputable section

namespace Cert.Proof.Class

open Cert.KernelIdeal Cert.KernelIdeal.Gen Cert.Proof.Block
open Idealize.ShloMosaic Idealize.ShloMosaic.TcCoe Idealize.SL.Sem

/-- The largest of the first numbers and the least index that has it. -/
def am (f : ℕ → EReal) : ℕ → EReal × ℕ
  | 0 => (f 0, 0)
  | k + 1 => if (am f k).1 < f (k + 1) then (f (k + 1), k + 1) else am f k

/-- The index is one of the first. -/
theorem am_le (f : ℕ → EReal) (n : ℕ) : (am f n).2 ≤ n := by
  induction n with
  | zero => exact le_refl 0
  | succ n ih => rw [am]; split <;> [exact le_refl _; omega]

/-- The number is the one at the index. -/
theorem am_fst (f : ℕ → EReal) (n : ℕ) : (am f n).1 = f (am f n).2 := by
  induction n with
  | zero => rfl
  | succ n ih =>
    rw [am]
    split
    · rfl
    · exact ih

/-- No number is larger, and none before it is as large. -/
theorem am_max (f : ℕ → EReal) (n q : ℕ) (hq : q ≤ n) :
    f q < (am f n).1 ∨ f q = (am f n).1 ∧ (am f n).2 ≤ q := by
  induction n with
  | zero =>
    obtain rfl : q = 0 := by omega
    exact .inr ⟨rfl, le_refl _⟩
  | succ n ih =>
    rw [am]
    split
    next h =>
      by_cases hq' : q = n + 1
      · subst hq'; exact .inr ⟨rfl, le_refl _⟩
      · rcases ih (by omega) with h1 | h1
        · exact .inl (h1.trans h)
        · exact .inl (h1.1.trans_lt h)
    next h =>
      by_cases hq' : q = n + 1
      · subst hq'
        rcases lt_or_eq_of_le (not_lt.mp h) with h1 | h1
        · exact .inl h1
        · exact .inr ⟨h1, (am_le f n).trans (by omega)⟩
      · exact ih (by omega)

/-- The two properties determine the index. -/
theorem am_unique (f : ℕ → EReal) (n : ℕ) (M : EReal) (i : ℕ)
    (hm : (M = ⊥ ∧ i = 0) ∨ i ≤ n ∧ M = f i) (hx : ∀ q, q ≤ n → f q < M ∨ f q = M ∧ i ≤ q) :
    i = (am f n).2 := by
  have h1 := hx _ (am_le f n)
  rw [← am_fst f n] at h1
  rcases hm with ⟨rfl, rfl⟩ | ⟨hi, rfl⟩
  · rcases h1 with h1 | ⟨h1, -⟩
    · simp at h1
    · rcases am_max f n 0 (by omega) with h2 | h2
      · rw [h1] at h2; simp at h2
      · omega
  · rcases am_max f n i hi with h2 | ⟨h2, h3⟩
    · rcases h1 with h1 | ⟨h1, -⟩
      · exact absurd (h1.trans h2) (lt_irrefl _)
      · rw [h1] at h2; exact absurd h2 (lt_irrefl _)
    · rcases h1 with h1 | ⟨-, h1⟩
      · rw [h2] at h1; exact absurd h1 (lt_irrefl _)
      · omega

/-- The planes of a block. -/
def plane (x : Vec Ideal S1x19x128x512 .f32) : ℕ → FVec Ideal S128x512 .f32
  | 0 => shapeCast S128x512 (View.ld x (Rect.unit ![0, 0, 0, 0] ![1, 1, 128, 512]
      inb_S1x19x128x512_S1x1x128x512_0_0_0_0)) shapeCasts_S1x1x128x512_S128x512
  | 1 => shapeCast S128x512 (View.ld x (Rect.unit ![0, 1, 0, 0] ![1, 1, 128, 512]
      inb_S1x19x128x512_S1x1x128x512_0_1_0_0)) shapeCasts_S1x1x128x512_S128x512
  | 2 => shapeCast S128x512 (View.ld x (Rect.unit ![0, 2, 0, 0] ![1, 1, 128, 512]
      inb_S1x19x128x512_S1x1x128x512_0_2_0_0)) shapeCasts_S1x1x128x512_S128x512
  | 3 => shapeCast S128x512 (View.ld x (Rect.unit ![0, 3, 0, 0] ![1, 1, 128, 512]
      inb_S1x19x128x512_S1x1x128x512_0_3_0_0)) shapeCasts_S1x1x128x512_S128x512
  | 4 => shapeCast S128x512 (View.ld x (Rect.unit ![0, 4, 0, 0] ![1, 1, 128, 512]
      inb_S1x19x128x512_S1x1x128x512_0_4_0_0)) shapeCasts_S1x1x128x512_S128x512
  | 5 => shapeCast S128x512 (View.ld x (Rect.unit ![0, 5, 0, 0] ![1, 1, 128, 512]
      inb_S1x19x128x512_S1x1x128x512_0_5_0_0)) shapeCasts_S1x1x128x512_S128x512
  | 6 => shapeCast S128x512 (View.ld x (Rect.unit ![0, 6, 0, 0] ![1, 1, 128, 512]
      inb_S1x19x128x512_S1x1x128x512_0_6_0_0)) shapeCasts_S1x1x128x512_S128x512
  | 7 => shapeCast S128x512 (View.ld x (Rect.unit ![0, 7, 0, 0] ![1, 1, 128, 512]
      inb_S1x19x128x512_S1x1x128x512_0_7_0_0)) shapeCasts_S1x1x128x512_S128x512
  | 8 => shapeCast S128x512 (View.ld x (Rect.unit ![0, 8, 0, 0] ![1, 1, 128, 512]
      inb_S1x19x128x512_S1x1x128x512_0_8_0_0)) shapeCasts_S1x1x128x512_S128x512
  | 9 => shapeCast S128x512 (View.ld x (Rect.unit ![0, 9, 0, 0] ![1, 1, 128, 512]
      inb_S1x19x128x512_S1x1x128x512_0_9_0_0)) shapeCasts_S1x1x128x512_S128x512
  | 10 => shapeCast S128x512 (View.ld x (Rect.unit ![0, 10, 0, 0] ![1, 1, 128, 512]
      inb_S1x19x128x512_S1x1x128x512_0_10_0_0)) shapeCasts_S1x1x128x512_S128x512
  | 11 => shapeCast S128x512 (View.ld x (Rect.unit ![0, 11, 0, 0] ![1, 1, 128, 512]
      inb_S1x19x128x512_S1x1x128x512_0_11_0_0)) shapeCasts_S1x1x128x512_S128x512
  | 12 => shapeCast S128x512 (View.ld x (Rect.unit ![0, 12, 0, 0] ![1, 1, 128, 512]
      inb_S1x19x128x512_S1x1x128x512_0_12_0_0)) shapeCasts_S1x1x128x512_S128x512
  | 13 => shapeCast S128x512 (View.ld x (Rect.unit ![0, 13, 0, 0] ![1, 1, 128, 512]
      inb_S1x19x128x512_S1x1x128x512_0_13_0_0)) shapeCasts_S1x1x128x512_S128x512
  | 14 => shapeCast S128x512 (View.ld x (Rect.unit ![0, 14, 0, 0] ![1, 1, 128, 512]
      inb_S1x19x128x512_S1x1x128x512_0_14_0_0)) shapeCasts_S1x1x128x512_S128x512
  | 15 => shapeCast S128x512 (View.ld x (Rect.unit ![0, 15, 0, 0] ![1, 1, 128, 512]
      inb_S1x19x128x512_S1x1x128x512_0_15_0_0)) shapeCasts_S1x1x128x512_S128x512
  | 16 => shapeCast S128x512 (View.ld x (Rect.unit ![0, 16, 0, 0] ![1, 1, 128, 512]
      inb_S1x19x128x512_S1x1x128x512_0_16_0_0)) shapeCasts_S1x1x128x512_S128x512
  | 17 => shapeCast S128x512 (View.ld x (Rect.unit ![0, 17, 0, 0] ![1, 1, 128, 512]
      inb_S1x19x128x512_S1x1x128x512_0_17_0_0)) shapeCasts_S1x1x128x512_S128x512
  | 18 => shapeCast S128x512 (View.ld x (Rect.unit ![0, 18, 0, 0] ![1, 1, 128, 512]
      inb_S1x19x128x512_S1x1x128x512_0_18_0_0)) shapeCasts_S1x1x128x512_S128x512
  | _ => broadcast S128x512 (0 : EReal)

/-- One comparison: the plane `P`, of index `k`, against the largest logits so far and their indices. -/
def compare (k : ℕ) (P : FVec Ideal S128x512 .f32) (b : FVec Ideal S128x512 .f32 × IVec S128x512 32) :
    FVec Ideal S128x512 .f32 × IVec S128x512 32 :=
  (select (cmpf .ogt P b.1) P b.1, select (cmpf .ogt P b.1) (broadcast S128x512 (BitVec.ofNat 32 k)) b.2)

/-- The chain of comparisons over the first planes: the largest logits and their indices. -/
def chain (P : ℕ → FVec Ideal S128x512 .f32) : ℕ → FVec Ideal S128x512 .f32 × IVec S128x512 32
  | 0 => (P 0, broadcast S128x512 0#32)
  | k + 1 => compare (k + 1) (P (k + 1)) (chain P k)

/-- A loaded plane as a matrix. -/
abbrev mat (v : Vec Ideal S1x1x128x512 .f32) : FVec Ideal S128x512 .f32 :=
  shapeCast S128x512 v shapeCasts_S1x1x128x512_S128x512

section
variable (v0 v1 v2 v3 v4 v5 : Vec Ideal S1x1x128x512 .f32) (b : FVec Ideal S128x512 .f32 × IVec S128x512 32)

/-- Planes 0 to 4. -/
theorem first5 : (k0_pay21 v0 v1 v2 v3 v4, k0_pay22 v0 v1 v2 v3 v4)
    = compare 4 (mat v4) (compare 3 (mat v3) (compare 2 (mat v2) (compare 1 (mat v1) (mat v0, broadcast S128x512 0#32)))) :=
  rfl

/-- Planes 5 to 9. -/
theorem next5 : (k0_pay37 b.1 v0 v1 v2 v3 v4, k0_pay38 b.1 b.2 v0 v1 v2 v3 v4)
    = compare 9 (mat v4) (compare 8 (mat v3) (compare 7 (mat v2) (compare 6 (mat v1) (compare 5 (mat v0) b)))) :=
  rfl

/-- Planes 10 to 15. -/
theorem next6 : (k0_pay57 b.1 v0 v1 v2 v3 v4 v5,
      select (k0_pay56 b.1 v0 v1 v2 v3 v4 v5) k0_pay58 (k0_pay54 b.1 b.2 v0 v1 v2 v3 v4))
    = compare 15 (mat v5) (compare 14 (mat v4) (compare 13 (mat v3) (compare 12 (mat v2) (compare 11 (mat v1)
        (compare 10 (mat v0) b))))) :=
  rfl

/-- Planes 16 to 18. -/
theorem last3 (m : IVec S128x512 1) (k g : IVec S128x512 32) (p : FVec Ideal S128x512 .f32) :
    k0_pay59 g m p k v0 v1 v2
      = (compare 18 (mat v2) (compare 17 (mat v1) (compare 16 (mat v0) (p, select m k g)))).2 :=
  rfl

end

/-- The kernel's classes are that chain over its nineteen planes. -/
theorem seg_eq (x : Vec Ideal S1x19x128x512 .f32) : Block.seg x = (chain (plane x) 18).2 := by
  have h4 : chain (plane x) 4 = _ := (first5 _ _ _ _ _).symm
  have h9 : chain (plane x) 9 = _ := (next5 _ _ _ _ _ (chain (plane x) 4)).symm
  have h15 : chain (plane x) 15 = _ := (next6 _ _ _ _ _ _ (chain (plane x) 9)).symm
  have h18 : (chain (plane x) 18).2
      = (compare 18 (plane x 18) (compare 17 (plane x 17) (compare 16 (plane x 16) (chain (plane x) 15)))).2 := rfl
  rw [h18, h15, h9, h4]
  exact last3 _ _ _ _ _ _ _

/-- At one pixel the chain is the largest logit and the least index. -/
theorem chain_apply (P : ℕ → FVec Ideal S128x512 .f32) (i : S128x512.Idx) (k : ℕ) :
    (chain P k).1 i = (am (fun q => P q i) k).1 ∧ (chain P k).2 i = BitVec.ofNat 32 (am (fun q => P q i) k).2 := by
  induction k with
  | zero => exact ⟨rfl, rfl⟩
  | succ k ih =>
    have hc : cmpf .ogt (P (k + 1)) (chain P k).1 i
        = BitVec.ofBool (decide ((am (fun q => P q i) k).1 < P (k + 1) i)) := by
      rw [← ih.1]; pointwise
    constructor
    · show Scalar.select (cmpf .ogt (P (k + 1)) (chain P k).1 i) (P (k + 1) i) ((chain P k).1 i) = _
      rw [hc, am, ih.1]
      by_cases h : (am (fun q => P q i) k).1 < P (k + 1) i <;> simp [h, Scalar.select]
    · show Scalar.select (cmpf .ogt (P (k + 1)) (chain P k).1 i) (BitVec.ofNat 32 (k + 1)) ((chain P k).2 i) = _
      rw [hc, am, ih.2]
      by_cases h : (am (fun q => P q i) k).1 < P (k + 1) i <;> simp [h, Scalar.select]

/-- A plane at a pixel. -/
theorem plane_apply (x : Vec Ideal S1x19x128x512 .f32) (q : Fin 19) (r : Fin 128) (w : Fin 512) :
    plane x q.val (ix2 r w) = x (ix4 0 q r w) := by
  obtain ⟨q, hq⟩ := q
  interval_cases q <;> (simp only [plane]; pointwise; try rfl)

/-- The same chain depends only on the first numbers. -/
theorem am_congr (f g : ℕ → EReal) (n : ℕ) (h : ∀ q, q ≤ n → f q = g q) : am f n = am g n := by
  induction n with
  | zero => simp [am, h]
  | succ n ih => rw [am, am, ih fun q hq => h q (by omega), h (n + 1) (by omega)]

end Cert.Proof.Class

end
-- ==== Proof.Lists.lean ====
module

public import Idealize.ShloMosaic.Lib.Pointwise
public import Mathlib.Algebra.Order.Group.Unbundled.Int
public import Mathlib.Algebra.BigOperators.Group.Finset.Basic

/-! Lists of whole numbers and the sum of the distances of neighbours in them: what it is for two lists joined, for
    the list an image's rows make, row by row, and for a row. No program is spoken of here. -/

@[expose] public section

namespace Cert.Proof.Lists

/-- The sum of the distances of neighbours. -/
def cost : List ℤ → ℤ
  | [] => 0
  | [_] => 0
  | a :: b :: l => |b - a| + cost (b :: l)

/-- The distance of two numbers, zero if one is missing. -/
def link : Option ℤ → Option ℤ → ℤ
  | some a, some b => |b - a|
  | _, _ => 0

/-- Nothing is at a distance from a missing number. -/
@[simp] theorem link_none_left (b : Option ℤ) : link none b = 0 := by cases b <;> rfl
/-- Nothing is at a distance from a missing number. -/
@[simp] theorem link_none_right (a : Option ℤ) : link a none = 0 := by cases a <;> rfl

/-- One number before a list: the distance to its first. -/
theorem cost_cons (a : ℤ) (l : List ℤ) : cost (a :: l) = link (some a) l.head? + cost l := by
  cases l with
  | nil => rfl
  | cons b l => rfl

/-- Two lists joined: the distance of the seam is added. -/
theorem cost_append (l₁ l₂ : List ℤ) : cost (l₁ ++ l₂) = cost l₁ + link l₁.getLast? l₂.head? + cost l₂ := by
  induction l₁ with
  | nil => simp [cost]
  | cons a l ih =>
    rw [List.cons_append, cost_cons, ih, cost_cons]
    cases l with
    | nil => simp [cost]
    | cons b l =>
      rw [List.getLast?_cons_cons]
      simp only [List.cons_append, List.head?_cons]
      ring

/-- The list made of the lists of the first `R` rows. -/
def acc (row : ℕ → List ℤ) : ℕ → List ℤ
  | 0 => []
  | R + 1 => acc row R ++ row R

/-- The last number of the first `R` rows: the last row's last, or else the last of the rows before. -/
theorem getLast?_acc_succ (row : ℕ → List ℤ) (R : ℕ) :
    (acc row (R + 1)).getLast? = (row R).getLast?.or (acc row R).getLast? := by
  rw [acc, List.getLast?_append]

/-- How many numbers `n` more rows bring. -/
theorem length_acc_add (row : ℕ → List ℤ) (R n : ℕ) :
    (acc row (R + n)).length = (acc row R).length + ∑ r ∈ Finset.range n, (row (R + r)).length := by
  induction n with
  | zero => simp
  | succ n ih =>
    rw [← Nat.add_assoc, acc, List.length_append, ih, Finset.sum_range_succ, Nat.add_assoc]

/-- What `n` more rows add to the cost: each row's own, and the distance from the last number before it to its first. -/
theorem cost_acc_add (row : ℕ → List ℤ) (R n : ℕ) :
    cost (acc row (R + n)) = cost (acc row R)
      + (∑ r ∈ Finset.range n, cost (row (R + r))
        + ∑ r ∈ Finset.range n, link (acc row (R + r)).getLast? (row (R + r)).head?) := by
  induction n with
  | zero => simp
  | succ n ih =>
    rw [← Nat.add_assoc, acc, cost_append, ih, Finset.sum_range_succ, Finset.sum_range_succ]
    ring

/-- The columns below `n` that are selected, in order. -/
def cols (p : ℕ → Bool) (n : ℕ) : List ℕ := (List.range n).filter p

/-- One column more. -/
theorem cols_succ (p : ℕ → Bool) (n : ℕ) : cols p (n + 1) = cols p n ++ if p n then [n] else [] := by
  rw [cols, List.range_succ, List.filter_append, ← cols]
  cases h : p n <;> simp [h]

/-- The columns listed are the selected ones. -/
theorem mem_cols {p : ℕ → Bool} {n w : ℕ} : w ∈ cols p n ↔ w < n ∧ p w = true := by
  simp [cols]

/-- How many columns are selected. -/
theorem length_cols (p : ℕ → Bool) (n : ℕ) : (cols p n).length = ∑ w ∈ Finset.range n, if p w then 1 else 0 := by
  induction n with
  | zero => rfl
  | succ n ih => rw [cols_succ, List.length_append, ih, Finset.sum_range_succ]; cases h : p n <;> simp

/-- The first selected column is selected, and none before it is. -/
theorem head?_cols {p : ℕ → Bool} {n a : ℕ} (h : (cols p n).head? = some a) :
    a < n ∧ p a = true ∧ ∀ w, w < n → p w = true → a ≤ w := by
  rw [cols, List.head?_filter, List.find?_range_eq_some] at h
  refine ⟨by simpa using h.2.1, h.1, fun w _ hw => ?_⟩
  by_contra hc
  have := h.2.2 w (by omega)
  simp [hw] at this

/-- The last selected column is selected, and none after it is. -/
theorem getLast?_cols {p : ℕ → Bool} {n a : ℕ} (h : (cols p n).getLast? = some a) :
    a < n ∧ p a = true ∧ ∀ w, w < n → p w = true → w ≤ a := by
  induction n with
  | zero => simp [cols] at h
  | succ n ih =>
    rw [cols_succ, List.getLast?_append] at h
    cases hp : p n with
    | true =>
      simp [hp] at h
      subst h
      exact ⟨by omega, hp, fun w hw _ => by omega⟩
    | false =>
      simp [hp] at h
      obtain ⟨h1, h2, h3⟩ := ih h
      refine ⟨by omega, h2, fun w hw hpw => ?_⟩
      rcases Nat.lt_succ_iff_lt_or_eq.mp hw with hlt | heq
      · exact h3 w hlt hpw
      · subst heq; rw [hp] at hpw; cases hpw

/-- A row's numbers: for each selected column, the column less the row's number. -/
def rowOf (p : ℕ → Bool) (n : ℕ) (r : ℤ) : List ℤ := (cols p n).map fun w : ℕ => (w : ℤ) - r

/-- A row's cost: its last column less its first. -/
theorem cost_rowOf (p : ℕ → Bool) (n : ℕ) (r : ℤ) :
    cost (rowOf p n r) = ((cols p n).getLast?.getD 0 : ℤ) - ((cols p n).head?.getD 0 : ℤ) := by
  induction n with
  | zero => rfl
  | succ n ih =>
    rw [rowOf, cols_succ, List.map_append, cost_append, ← rowOf, ih]
    cases hp : p n with
    | false => simp [cost]
    | true =>
      simp only [if_true, List.map_cons, List.map_nil, List.head?_cons, List.getLast?_append,
        List.getLast?_singleton, Option.some_or, List.head?_append, cost, add_zero, rowOf, List.getLast?_map,
        List.head?_map, Option.getD_some]
      cases hl : (cols p n).getLast? with
      | none =>
        rw [List.getLast?_eq_none_iff] at hl
        simp [hl]
      | some b =>
        have hb := (getLast?_cols hl).1
        have hne : cols p n ≠ [] := by intro h; rw [h] at hl; cases hl
        obtain ⟨a, ha⟩ : ∃ a, (cols p n).head? = some a := by
          cases h : cols p n with
          | nil => exact absurd h hne
          | cons a l => exact ⟨a, rfl⟩
        simp only [ha, Option.map_some, link, Option.getD_some, Option.some_or]
        rw [show ((n : ℤ) - r - ((b : ℤ) - r)) = (n : ℤ) - b by ring, abs_of_nonneg (by omega)]
        ring

/-- The cost of a list as a sum over positions: below the last one, the distance to the next. -/
theorem cost_eq_sum (l : List ℤ) (g : ℕ → ℤ) (hg : ∀ i, i < l.length → l[i]? = some (g i)) (N : ℕ)
    (hN : l.length ≤ N + 1) :
    cost l = ∑ i ∈ Finset.range N, if i + 1 < l.length then |g (i + 1) - g i| else 0 := by
  induction l generalizing g N with
  | nil => simp [cost]
  | cons a l ih =>
    cases l with
    | nil => simp [cost]
    | cons b l =>
      obtain ⟨M, rfl⟩ : ∃ M, N = M + 1 := ⟨N - 1, by simp at hN; omega⟩
      rw [cost_cons, ih (fun i => g (i + 1)) (fun i hi => by
        have := hg (i + 1) (by simpa using hi)
        simpa using this) M (by simpa using hN), Finset.sum_range_succ', add_comm]
      have h0 := hg 0 (by simp)
      have h1 := hg 1 (by simp)
      simp only [List.getElem?_cons_zero, Option.some.injEq, List.getElem?_cons_succ] at h0 h1
      subst h0; subst h1
      congr 1
      · refine Finset.sum_congr rfl fun i _ => ?_
        simp

end Cert.Proof.Lists

end
-- ==== Proof.Scan.lean ====
module

public import proofs.«01_k».proof.Proof.Lists
public import Mathlib.Data.EReal.Operations

/-! Whole numbers as extended reals, and an optional whole number as a value and a flag. The last number among a row
    and those before it, by windows that double. -/

@[expose] public section

noncomputable section

namespace Cert.Proof.Scan

open Cert.Proof.Lists

/-- A whole number as an extended real. -/
def ez (z : ℤ) : EReal := ((z : ℝ) : EReal)

/-- Zero. -/
theorem ez_zero : ez 0 = 0 := by simp [ez]
/-- One. -/
theorem ez_one : ez 1 = 1 := by simp [ez]
/-- Sums of two. -/
theorem ez_add (a b : ℤ) : ez a + ez b = ez (a + b) := by simp [ez]
/-- Differences. -/
theorem ez_sub (a b : ℤ) : ez a - ez b = ez (a - b) := by simp [ez]
/-- Products. -/
theorem ez_mul (a b : ℤ) : ez a * ez b = ez (a * b) := by simp [ez]
/-- Order. -/
theorem ez_le {a b : ℤ} : ez a ≤ ez b ↔ a ≤ b := by simp [ez]
/-- Strict order. -/
theorem ez_lt {a b : ℤ} : ez a < ez b ↔ a < b := by simp [ez]
/-- Distances. -/
theorem ez_abs (a : ℤ) : max (ez a) (-ez a) = ez |a| := by
  have h : -ez a = ez (-a) := by simp [ez]
  rw [h]
  rcases le_total 0 a with h0 | h0
  · rw [abs_of_nonneg h0, max_eq_left (ez_le.mpr (by omega))]
  · rw [abs_of_nonpos h0, max_eq_right (ez_le.mpr (by omega))]
/-- Sums over a set. -/
theorem ez_sum {ι : Type} (s : Finset ι) (f : ι → ℤ) : ∑ i ∈ s, ez (f i) = ez (∑ i ∈ s, f i) := by
  classical
  induction s using Finset.induction_on with
  | empty => simp [ez_zero]
  | insert i s hi ih => rw [Finset.sum_insert hi, Finset.sum_insert hi, ih, ez_add]
/-- A sum over the numbers below `n`. -/
theorem ez_sum_fin (n : ℕ) (f : ℕ → ℤ) : ∑ i : Fin n, ez (f i.val) = ez (∑ i ∈ Finset.range n, f i) := by
  rw [ez_sum, Finset.sum_range]

/-- One if a number is there, zero if not. -/
def flag : Option ℤ → EReal
  | none => 0
  | some _ => 1

/-- The number if one is there, zero if not. -/
def val : Option ℤ → EReal
  | none => 0
  | some z => ez z

/-- The greater flag is the flag of the first number that is there. -/
theorem max_flag (a b : Option ℤ) : max (flag a) (flag b) = flag (a.or b) := by
  cases a <;> cases b <;> simp [flag]

/-- Choosing by the flag is choosing the first number that is there. -/
theorem if_flag (a b : Option ℤ) : (if 0 < flag a then val a else val b) = val (a.or b) := by
  cases a <;> simp [flag, val]

/-- The flag times the other times the distance is the distance of two optional numbers. -/
theorem flag_mul_abs (a b : Option ℤ) (x : EReal) (hx : ∀ z, b = some z → x = ez z) :
    flag b * flag a * max (x - val a) (-(x - val a)) = ez (link a b) := by
  cases b with
  | none => simp [flag, ez_zero]
  | some z =>
    rw [hx z rfl]
    cases a with
    | none => simp [flag, ez_zero]
    | some y => simp only [flag, val, one_mul, link]; rw [ez_sub, ez_abs]

/-- The last number among the rows up to `r`. -/
def upTo (o : ℕ → Option ℤ) : ℕ → Option ℤ
  | 0 => o 0
  | r + 1 => (o (r + 1)).or (upTo o r)

/-- The last number among the `w` rows that end with `r`. -/
def win (o : ℕ → Option ℤ) : ℕ → ℕ → Option ℤ
  | 0, _ => none
  | _ + 1, 0 => o 0
  | w + 1, r + 1 => (o (r + 1)).or (win o w r)

/-- One row. -/
theorem win_one (o : ℕ → Option ℤ) (r : ℕ) : win o 1 r = o r := by
  cases r <;> simp [win]

/-- A window is its later part, or else its earlier one. -/
theorem win_add (o : ℕ → Option ℤ) (a b r : ℕ) :
    win o (a + b) r = (win o a r).or (if r < a then none else win o b (r - a)) := by
  induction a generalizing r with
  | zero => simp [win]
  | succ a ih =>
    rw [Nat.add_right_comm]
    cases r with
    | zero => simp [win]
    | succ r => simp only [win, ih, Option.or_assoc, Nat.add_lt_add_iff_right, Nat.add_sub_add_right]

/-- A window as long as the rows there are is everything. -/
theorem win_all (o : ℕ → Option ℤ) (w r : ℕ) (h : r < w) : win o w r = upTo o r := by
  induction r generalizing w with
  | zero => obtain ⟨w, rfl⟩ : ∃ v, w = v + 1 := ⟨w - 1, by omega⟩; rfl
  | succ r ih =>
    obtain ⟨w, rfl⟩ : ∃ v, w = v + 1 := ⟨w - 1, by omega⟩
    rw [win, ih w (by omega), upTo]

/-- The last number of `R` rows and of the rows up to `r` after them. -/
theorem upTo_or (row : ℕ → List ℤ) (R r : ℕ) :
    (upTo (fun i => (row (R + i)).getLast?) r).or (acc row R).getLast? = (acc row (R + (r + 1))).getLast? := by
  induction r with
  | zero => rw [upTo, Nat.add_zero, getLast?_acc_succ]
  | succ r ih => rw [upTo, Option.or_assoc, ih, ← Nat.add_assoc R (r + 1) 1, getLast?_acc_succ]

/-- The last number of the rows before row `r`. -/
theorem before_or (row : ℕ → List ℤ) (R r : ℕ) :
    (if r < 1 then none else upTo (fun i => (row (R + i)).getLast?) (r - 1)).or (acc row R).getLast?
      = (acc row (R + r)).getLast? := by
  cases r with
  | zero => rfl
  | succ r => rw [if_neg (by omega), Nat.add_sub_cancel, upTo_or]

end Cert.Proof.Scan

end
-- ==== Proof.Row.lean ====
module

public import proofs.«01_k».proof.Proof.Block
public import proofs.«01_k».proof.Proof.Scan
public import Idealize.ShloMosaic.Lib.Pointwise

/-! One row of a block, in numbers: the count, the first and the last column of a class, lane by lane. -/

@[expose] public section

set_option maxRecDepth 16384

noncomputable section

namespace Cert.Proof.Row

open Cert.KernelIdeal Cert.KernelIdeal.Gen Cert.Proof.Block Cert.Proof.Scan Cert.Proof.Lists
open Idealize.ShloMosaic Idealize.ShloMosaic.TcCoe Idealize.SL.Sem

/-- A small number in 32 bits is read back as itself. -/
theorem toInt_ofNat (n : ℕ) (hn : n < 2 ^ 31) : (BitVec.ofNat 32 n).toInt = n := by
  rw [BitVec.toInt_eq_toNat_of_lt] <;> rw [BitVec.toNat_ofNat, Nat.mod_eq_of_lt (by omega)]
  omega

/-- A small number in 32 bits, converted, is that whole number. -/
theorem sitofp_ofNat (n : ℕ) (hn : n < 2 ^ 31) :
    (FloatOps.sitofp (F := Ideal) FTy.f32 (BitVec.ofNat 32 n) : EReal) = ez n := by
  show (((BitVec.ofNat 32 n).toInt : ℝ) : EReal) = _
  rw [toInt_ofNat n hn, ez]

/-- The constant 512. -/
theorem const512 : (Ideal.ofBits FTy.f32 1140850688#32 : EReal) = ez 512 := by
  simp [Ideal.ofBits, Ideal.ieee, ez, -EReal.coe_mul]
  norm_num
/-- The constant −1. -/
theorem constNeg1 : (Ideal.ofBits FTy.f32 3212836864#32 : EReal) = ez (-1) := by
  simp [Ideal.ofBits, Ideal.ieee, ez, -EReal.coe_mul, -EReal.coe_neg]
  norm_num
/-- The constant 2. -/
theorem const2 : (Ideal.ofBits FTy.f32 1073741824#32 : EReal) = ez 2 := by
  simp [Ideal.ofBits, Ideal.ieee, ez, -EReal.coe_mul]
  norm_num
/-- The constant +∞. -/
theorem constTop : (Ideal.ofBits FTy.f32 2139095040#32 : EReal) = ⊤ := by simp [Ideal.ofBits, Ideal.ieee]
/-- The constant −∞. -/
theorem constBot : (Ideal.ofBits FTy.f32 4286578688#32 : EReal) = ⊥ := by simp [Ideal.ofBits, Ideal.ieee]

/-- Eighteen columns side by side and zeros: lane `l` is column `l + 1`. -/
theorem cat_apply (f : BitVec 32 → FVec Ideal S128x1 .f32) (r l : Fin 128) :
    cat (F := Ideal) f (ix2 r l) = if l.val < 18 then f (BitVec.ofNat 32 (l.val + 1)) (ix2 r 0) else 0 := by
  unfold cat
  pointwise
  obtain ⟨l, hl⟩ := l
  by_cases h : l < 18
  · simp only [h, if_true]
    interval_cases l <;> rfl
  · simp only [h, if_false]
    have h' : 18 ≤ l := by omega
    interval_cases l <;> rfl

/-- Choosing by an equality of classes. -/
theorem select_cmpi {α : Type} (a b : BitVec 32) (x y : α) :
    Scalar.select (IntOp.cmpi .eq a b) x y = if a = b then x else y := by
  show (if BitVec.ofBool (a == b) = 1#1 then x else y) = _
  by_cases h : a = b
  · subst h; simp
  · rw [beq_eq_false_iff_ne.mpr h, if_neg h]; rfl

section
variable (g : IVec S128x512 32) (c : BitVec 32) (r : Fin 128) (p : ℕ → Bool)
  (hp : ∀ w : Fin 512, p w.val = decide (g (ix2 r w) = c))
include hp

/-- The count of a row is the number of selected columns. -/
theorem cntC_eq : cntC (F := Ideal) g c (ix2 r 0) = ez (cols p 512).length := by
  have h : cntC (F := Ideal) g c (ix2 r 0)
      = ∑ x, Scalar.select (IntOp.cmpi .eq (g (ix2 r x)) c) (1 : EReal) 0 := by
    unfold cntC hit; pointwise
  rw [h, length_cols]
  have : ∀ x : Fin 512, Scalar.select (IntOp.cmpi .eq (g (ix2 r x)) c) (1 : EReal) 0
      = ez ((fun w => if p w then 1 else 0) x.val) := by
    intro x
    rw [select_cmpi]
    simp only [hp x]
    by_cases h : g (ix2 r x) = c <;> simp [h, ez_zero, ez_one]
  rw [Finset.sum_congr rfl fun x _ => this x]
  refine (ez_sum_fin 512 fun w => if p w then 1 else 0).trans ?_
  congr 1
  push_cast
  rfl

/-- The first column of a row is the first selected one. -/
theorem fstC_eq (a : ℕ) (ha : (cols p 512).head? = some a) : fstC (F := Ideal) g c (ix2 r 0) = ez a := by
  have h : fstC (F := Ideal) g c (ix2 r 0)
      = Finset.fold min (Ideal.ofBits FTy.f32 2139095040#32 : EReal) (fun x : Fin 512 =>
          Scalar.select (IntOp.cmpi .eq (g (ix2 r x)) c) (FloatOps.sitofp (F := Ideal) FTy.f32 (BitVec.ofNat 32 x.val))
            (Ideal.ofBits FTy.f32 1140850688#32)) Finset.univ := by
    unfold fstC hit colNo; pointwise
  obtain ⟨h1, h2, h3⟩ := head?_cols ha
  rw [h]
  apply le_antisymm
  · refine (Finset.fold_min_le _).mpr (.inr ⟨⟨a, h1⟩, Finset.mem_univ _, ?_⟩)
    rw [select_cmpi, if_pos (by simpa [hp ⟨a, h1⟩] using (hp ⟨a, h1⟩).symm.trans h2), sitofp_ofNat _ (by simp only; omega)]
  · refine (Finset.le_fold_min _).mpr ⟨by rw [constTop]; exact le_top, fun w _ => ?_⟩
    rw [select_cmpi]
    split
    next hw =>
      rw [sitofp_ofNat _ (by omega), ez_le]
      exact_mod_cast h3 w.val w.isLt (by rw [hp w]; simpa using hw)
    next => rw [const512, ez_le]; omega

/-- The last column of a row is the last selected one. -/
theorem lstC_eq (a : ℕ) (ha : (cols p 512).getLast? = some a) : lstC (F := Ideal) g c (ix2 r 0) = ez a := by
  have h : lstC (F := Ideal) g c (ix2 r 0)
      = Finset.fold max (Ideal.ofBits FTy.f32 4286578688#32 : EReal) (fun x : Fin 512 =>
          Scalar.select (IntOp.cmpi .eq (g (ix2 r x)) c) (FloatOps.sitofp (F := Ideal) FTy.f32 (BitVec.ofNat 32 x.val))
            (Ideal.ofBits FTy.f32 3212836864#32)) Finset.univ := by
    unfold lstC hit colNo; pointwise
  obtain ⟨h1, h2, h3⟩ := getLast?_cols ha
  rw [h]
  apply le_antisymm
  · refine (Finset.fold_max_le _).mpr ⟨by rw [constBot]; exact bot_le, fun w _ => ?_⟩
    rw [select_cmpi]
    split
    next hw =>
      rw [sitofp_ofNat _ (by omega), ez_le]
      exact_mod_cast h3 w.val w.isLt (by rw [hp w]; simpa using hw)
    next => rw [constNeg1, ez_le]; omega
  · refine (Finset.le_fold_max _).mpr (.inr ⟨⟨a, h1⟩, Finset.mem_univ _, ?_⟩)
    rw [select_cmpi, if_pos (by simpa [hp ⟨a, h1⟩] using (hp ⟨a, h1⟩).symm.trans h2), sitofp_ofNat _ (by simp only; omega)]

end

/-- `p` says of each row of the image and each column whether the pixel is of lane `l`'s class, and the block
    holds the rows from `R` on. -/
def Sees (p : ℕ → ℕ → Bool) (R : ℕ) (g : IVec S128x512 32) (l : Fin 128) : Prop :=
  ∀ (r : Fin 128) (w : Fin 512),
    p (R + r.val) w.val = (decide (l.val < 18) && decide (g (ix2 r w) = BitVec.ofNat 32 (l.val + 1)))

section
variable {x : Vec Ideal S1x19x128x512 .f32} {p : ℕ → ℕ → Bool} {R : ℕ} {l : Fin 128}
  (hs : Sees p R (Block.seg x) l) (r : Fin 128)
include hs

/-- In a lane that stands for no class no column is selected. -/
theorem cols_nil (h : ¬ l.val < 18) : cols (p (R + r.val)) 512 = [] := by
  rw [List.eq_nil_iff_forall_not_mem]
  intro w hw
  obtain ⟨h1, h2⟩ := mem_cols.mp hw
  have := hs r ⟨w, h1⟩
  simp [h] at this
  simp [this] at h2

/-- The count of a row and lane. -/
theorem cnt_eq : cnt x (ix2 r l) = ez (cols (p (R + r.val)) 512).length := by
  rw [cnt, cat_apply]
  by_cases h : l.val < 18
  · rw [if_pos h]
    exact cntC_eq _ _ r _ fun w => by rw [hs r w]; simp [h]
  · rw [if_neg h, cols_nil hs r h]
    simp [ez_zero]

/-- The first column of a row and lane, if there is one. -/
theorem fst_eq (a : ℕ) (ha : (cols (p (R + r.val)) 512).head? = some a) : Block.fst x (ix2 r l) = ez a := by
  by_cases h : l.val < 18
  · rw [Block.fst, cat_apply, if_pos h]
    exact fstC_eq _ _ r _ (fun w => by rw [hs r w]; simp [h]) a ha
  · rw [cols_nil hs r h] at ha; simp at ha

/-- The last column of a row and lane, if there is one. -/
theorem lst_eq (a : ℕ) (ha : (cols (p (R + r.val)) 512).getLast? = some a) : lst x (ix2 r l) = ez a := by
  by_cases h : l.val < 18
  · rw [lst, cat_apply, if_pos h]
    exact lstC_eq _ _ r _ (fun w => by rw [hs r w]; simp [h]) a ha
  · rw [cols_nil hs r h] at ha; simp at ha

/-- The flag of a row and lane says whether there is a pixel. -/
theorem ex_eq (z : ℤ) : ex x (ix2 r l) = flag (rowOf (p (R + r.val)) 512 z).getLast? := by
  have h : ex x (ix2 r l)
      = FloatOps.sitofp (F := Ideal) FTy.f32 (BitVec.setWidth 32 (BitVec.ofBool (decide ((0 : EReal) < cnt x (ix2 r l))))) := by
    unfold ex present; pointwise
  rw [h, cnt_eq hs r, ← ez_zero]
  simp only [ez_lt]
  rw [rowOf, List.getLast?_map]
  generalize cols (p (R + r.val)) 512 = L
  cases hL : L.getLast? with
  | none =>
    rw [List.getLast?_eq_none_iff] at hL
    subst hL
    show (((0 : ℤ) : ℝ) : EReal) = 0
    simp
  | some a =>
    have : 0 < L.length := by
      cases L with
      | nil => simp at hL
      | cons => simp
    rw [decide_eq_true (by exact_mod_cast this)]
    show (((1 : ℤ) : ℝ) : EReal) = 1
    simp

end

end Cert.Proof.Row

end
-- ==== Proof.RefClass.lean ====
module

public import proofs.«01_k».proof.Proof.RefRun
public import proofs.«01_k».proof.Proof.Class
public import proofs.«01_k».proof.Proof.Row

/-! The reference's class of a pixel: the least index of a largest logit as well. -/

@[expose] public section

set_option maxRecDepth 16384

noncomputable section

namespace Cert.Proof.RefClass

open Cert.ReferenceIdeal Cert.ReferenceIdeal.Gen Cert.Proof.Class
open Idealize.ShloMosaic Idealize.ShloMosaic.TcCoe Idealize.SL.Sem

/-- The logits of one pixel, by class. -/
def logit (x : FVec Ideal S2x19x512x512 .f32) (b : Fin 2) (r w : Fin 512) (q : ℕ) : EReal :=
  if h : q < 19 then x (ix4 b ⟨q, h⟩ r w) else 0

/-- The class of a pixel. -/
def cls (x : FVec Ideal S2x19x512x512 .f32) (b : Fin 2) (r w : Fin 512) : ℕ := (am (logit x b r w) 18).2

/-- The reducer keeps the larger number, and of equal ones the one of least index. -/
theorem reducer_eq (M v : EReal) (i q : ℕ) (hi : i ≤ 18) (hq : q ≤ 18) :
    reducer_argmax_f32_i32 (F := Ideal) (M, BitVec.ofNat 32 i) (v, BitVec.ofNat 32 q)
      = if v < M ∨ v = M ∧ i < q then (M, BitVec.ofNat 32 i) else (v, BitVec.ofNat 32 q) := by
  have h1 : (FloatOps.cmpf (F := Ideal) (φ := .f32) .ogt M v) = BitVec.ofBool (decide (v < M)) := rfl
  have h2 : (FloatOps.cmpf (F := Ideal) (φ := .f32) .une M M) = BitVec.ofBool (decide (M ≠ M)) := rfl
  have h3 : (FloatOps.cmpf (F := Ideal) (φ := .f32) .oeq M v) = BitVec.ofBool (decide (M = v)) := rfl
  have h4 : IntOp.cmpi .slt (BitVec.ofNat 32 i) (BitVec.ofNat 32 q) = BitVec.ofBool (decide (i < q)) := by
    show BitVec.ofBool (BitVec.slt _ _) = _
    congr 1
    rw [BitVec.slt_eq_decide, Row.toInt_ofNat i (by omega), Row.toInt_ofNat q (by omega)]
    simp
  unfold reducer_argmax_f32_i32
  simp only [h1, h2, h3, h4]
  rcases lt_trichotomy v M with h | h | h
  · have hn : ¬ M = v := h.ne'
    simp [h, hn, IntOp.ori, IntOp.andi, Scalar.select]
  · subst h
    by_cases h' : i < q <;> simp [h', IntOp.ori, IntOp.andi, Scalar.select]
  · have hn : ¬ v < M := not_lt.mpr h.le
    have hn' : ¬ M = v := h.ne
    have hn'' : ¬ v = M := h.ne'
    simp [hn, hn', hn'', IntOp.ori, IntOp.andi, Scalar.select]

/-- The fold over any list of numbers with their indices ends with a largest number and its least index. -/
theorem fold_spec (f : ℕ → EReal) (L : List (Ideal .f32 × BitVec 32))
    (hL : ∀ p ∈ L, ∃ q, q ≤ 18 ∧ p = (f q, BitVec.ofNat 32 q)) (M : Ideal .f32) (i : ℕ) (hi : i ≤ 18) :
    ∃ (M' : EReal) (i' : ℕ), L.foldl (reducer_argmax_f32_i32 (F := Ideal)) (M, BitVec.ofNat 32 i) = (M', BitVec.ofNat 32 i') ∧ i' ≤ 18
      ∧ (M' = M ∧ i' = i ∨ M' = f i') ∧ (M < M' ∨ M = M' ∧ i' ≤ i)
      ∧ ∀ q, q ≤ 18 → (f q, BitVec.ofNat 32 q) ∈ L → f q < M' ∨ f q = M' ∧ i' ≤ q := by
  induction L generalizing M i with
  | nil => exact ⟨M, i, rfl, hi, .inl ⟨rfl, rfl⟩, .inr ⟨rfl, le_refl _⟩, fun q _ h => by simp at h⟩
  | cons p L ih =>
    obtain ⟨q, hq, rfl⟩ := hL p (by simp)
    have hL' := fun p hp => hL p (List.mem_cons_of_mem _ hp)
    have hinj : ∀ a b : ℕ, a ≤ 18 → b ≤ 18 → BitVec.ofNat 32 a = BitVec.ofNat 32 b → a = b := by
      intro a b ha hb h
      have := congrArg BitVec.toNat h
      simp only [BitVec.toNat_ofNat] at this
      omega
    rw [List.foldl_cons, reducer_eq M (f q) i q hi hq]
    split
    next h =>
      obtain ⟨M', i', h1, h2, h3, h4, h5⟩ := ih hL' M i hi
      refine ⟨M', i', h1, h2, h3, h4, fun q' hq' hm => ?_⟩
      rcases List.mem_cons.mp hm with hm | hm
      · obtain rfl := hinj _ _ hq' hq (congrArg Prod.snd hm)
        rcases h with h | ⟨h, h6⟩
        · rcases h4 with h4 | ⟨rfl, -⟩
          · exact .inl (h.trans h4)
          · exact .inl h
        · rw [h]
          rcases h4 with h4 | ⟨h4, h7⟩
          · exact .inl h4
          · exact .inr ⟨h4, by omega⟩
      · exact h5 q' hq' hm
    next h =>
      obtain ⟨M', i', h1, h2, h3, h4, h5⟩ := ih hL' (f q) q hq
      have h3' : M' = f i' := by
        rcases h3 with ⟨rfl, rfl⟩ | h3
        · rfl
        · exact h3
      refine ⟨M', i', h1, h2, .inr h3', ?_, fun q' hq' hm => ?_⟩
      · rcases lt_trichotomy (f q) M with h6 | h6 | h6
        · exact absurd (.inl h6) h
        · have h7 : ¬ i < q := fun h7 => h (.inr ⟨h6, h7⟩)
          rw [← h6]
          rcases h4 with h4 | ⟨h4, h8⟩
          · exact .inl h4
          · exact .inr ⟨h4, by omega⟩
        · rcases h4 with h4 | ⟨h4, -⟩
          · exact .inl (h6.trans h4)
          · exact .inl (h4 ▸ h6)
      · rcases List.mem_cons.mp hm with hm | hm
        · obtain rfl := hinj _ _ hq' hq (congrArg Prod.snd hm)
          exact h4
        · exact h5 q' hq' hm

/-- The pairs an index-carrying reduction folds over at one place. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  rw [Host.argReduceFiber]
  simp only [List.mem_map, List.mem_filter, List.mem_finRange, true_and, decide_eq_true_eq]
  constructor
  · rintro ⟨n, hn, rfl⟩; exact ⟨_, hn, rfl⟩
  · rintro ⟨i, hi, rfl⟩
    exact ⟨s.rowMajor i, by rw [Equiv.symm_apply_apply]; exact hi, by rw [Equiv.symm_apply_apply]⟩

/-- The indices that the reduction brings to one pixel. -/
theorem drop_iff (b : Fin 2) (r w : Fin 512) (i : S2x19x512x512.Idx) :
    reducesTo_S2x19x512x512_S2x512x512_d1.drop i = ix3 b r w ↔ ∃ q : Fin 19, i = ix4 b q r w := by
  have e0 := Shape.ReducesTo.drop_apply_val_of_eq reducesTo_S2x19x512x512_S2x512x512_d1 i 0 0
  have e1 := Shape.ReducesTo.drop_apply_val_of_eq reducesTo_S2x19x512x512_S2x512x512_d1 i 1 2
  have e2 := Shape.ReducesTo.drop_apply_val_of_eq reducesTo_S2x19x512x512_S2x512x512_d1 i 2 3
  constructor
  · intro h
    rw [h] at e0 e1 e2
    refine ⟨i 1, funext fun a => ?_⟩
    fin_cases a
    · exact Fin.ext e0.symm
    · rfl
    · exact Fin.ext e1.symm
    · exact Fin.ext e2.symm
  · rintro ⟨q, rfl⟩
    funext a
    fin_cases a
    · exact Fin.ext e0
    · exact Fin.ext e1
    · exact Fin.ext e2

/-- The pairs of one pixel: each class's logit with the class. -/
theorem mem_pixel (x : FVec Ideal S2x19x512x512 .f32) (b : Fin 2) (r w : Fin 512) (p : Ideal .f32 × BitVec 32) :
    p ∈ Host.argReduceFiber x (iotaInDim S2x19x512x512 32 1)
      reducesTo_S2x19x512x512_S2x512x512_d1 (ix3 b r w) ↔ ∃ q, q ≤ 18 ∧ p = (logit x b r w q, BitVec.ofNat 32 q) := by
  rw [mem_fiber]
  constructor
  · rintro ⟨i, hi, rfl⟩
    obtain ⟨q, rfl⟩ := (drop_iff b r w i).mp hi
    refine ⟨q.val, by omega, Prod.ext ?_ rfl⟩
    simp only [logit, q.isLt, dite_true]
  · rintro ⟨q, hq, rfl⟩
    refine ⟨ix4 b ⟨q, by omega⟩ r w, (drop_iff b r w _).mpr ⟨_, rfl⟩, Prod.ext ?_ rfl⟩
    simp only [logit, show q < 19 by omega, dite_true]

/-- The reduction starts from −∞ and index 0. -/
theorem start_eq : (constant (F := Ideal) S_ .f32 0xFF800000#32 (Shape.Idx.first h_S_),
      constantI S_ 32 0#32 (Shape.Idx.first h_S_)) = ((show Ideal .f32 from (⊥ : EReal)), BitVec.ofNat 32 0) :=
  Prod.ext Row.constBot rfl

/-- The reduction at one place is the fold over its pairs. -/
theorem argReduce_fold {s t u : Shape} {axes : List (Fin s.rank)} {φ : FTy} {β : Type}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) (z : Ideal φ × β)
    (hz : (ix (Shape.Idx.first hu), iy (Shape.Idx.first hu)) = z) :
    Host.argReduce f x y ix iy h hu j = (Host.argReduceFiber x y h j).foldl f z := by
  rw [Ideal.argReduce_eq_reduce2, Host.reduce2_eq_foldl_fiber, hz]

/-- The reference's classes, as the reduction's second result. -/
theorem seg_def (x : FVec Ideal S2x19x512x512 .f32) : Ref.seg (F := Ideal) x = fun j =>
    (Host.argReduce reducer_argmax_f32_i32 x (iotaInDim S2x19x512x512 32 1) (constant (F := Ideal) S_ .f32 0xFF800000#32)
      (constantI S_ 32 0#32) reducesTo_S2x19x512x512_S2x512x512_d1 h_S_ j).2 := by
  delta Ref.seg
  with_reducible rfl

/-- The reference's class of a pixel. -/
theorem seg_apply (x : FVec Ideal S2x19x512x512 .f32) (b : Fin 2) (r w : Fin 512) :
    Ref.seg (F := Ideal) x (ix3 b r w) = BitVec.ofNat 32 (cls x b r w) := by
  have e := argReduce_fold (reducer_argmax_f32_i32 (F := Ideal)) x (iotaInDim S2x19x512x512 32 1)
    (constant (F := Ideal) S_ .f32 0xFF800000#32) (constantI S_ 32 0#32) reducesTo_S2x19x512x512_S2x512x512_d1 h_S_
    (ix3 b r w) _ start_eq
  obtain ⟨M, i, h1, h2, h3, h4, h5⟩ :=
    fold_spec (logit x b r w) _ (fun p => (mem_pixel x b r w p).mp) ⊥ 0 (by omega)
  have h6 : i = cls x b r w := by
    refine am_unique _ _ M i ?_ fun q hq => h5 q hq ((mem_pixel x b r w _).mpr ⟨q, hq, rfl⟩)
    rcases h3 with ⟨h3, h6⟩ | h3
    · exact .inl ⟨h3, h6⟩
    · exact .inr ⟨h2, h3⟩
  rw [h1] at e
  rw [← h6]
  exact (congrFun (seg_def x) (ix3 b r w)).trans (congrArg Prod.snd e)

end Cert.Proof.RefClass

end
-- ==== Proof.Step.lean ====
module

public import proofs.«01_k».proof.Proof.Row

/-! What one block does to the four carried vectors, in numbers, lane by lane. -/

@[expose] public section

set_option maxRecDepth 16384

noncomputable section

namespace Cert.Proof.Step

open Cert.KernelIdeal Cert.KernelIdeal.Gen Cert.Proof.Block Cert.Proof.Scan Cert.Proof.Lists Cert.Proof.Row
open Idealize.ShloMosaic Idealize.ShloMosaic.TcCoe Idealize.SL.Sem

/-- `D` moves the rows of lane `l` down by `k`, zeros coming in. -/
def Moves (l : Fin 128) (k : ℕ) (D : FVec Ideal S128x128 .f32 → FVec Ideal S128x128 .f32) : Prop :=
  ∀ x (r : Fin 128), D x (ix2 r l) = if r.val < k then (0 : EReal) else x (ix2 ⟨r.val - k, by omega⟩ l)

/-- The shift by 1. -/
theorem moves1 (l : Fin 128) : Moves l 1 down1 := fun x r => by unfold down1; pointwise; split_ifs <;> rfl
/-- The shift by 2. -/
theorem moves2 (l : Fin 128) : Moves l 2 down2 := fun x r => by unfold down2; pointwise; split_ifs <;> rfl
/-- The shift by 4. -/
theorem moves4 (l : Fin 128) : Moves l 4 down4 := fun x r => by unfold down4; pointwise; split_ifs <;> rfl
/-- The shift by 8. -/
theorem moves8 (l : Fin 128) : Moves l 8 down8 := fun x r => by unfold down8; pointwise; split_ifs <;> rfl
/-- The shift by 16. -/
theorem moves16 (l : Fin 128) : Moves l 16 down16 := fun x r => by unfold down16; pointwise; split_ifs <;> rfl
/-- The shift by 32. -/
theorem moves32 (l : Fin 128) : Moves l 32 down32 := fun x r => by unfold down32; pointwise; split_ifs <;> rfl
/-- The shift by 64. -/
theorem moves64 (l : Fin 128) : Moves l 64 down64 := fun x r => by unfold down64; pointwise; split_ifs <;> rfl

section
variable {l : Fin 128} {k : ℕ} {D : FVec Ideal S128x128 .f32 → FVec Ideal S128x128 .f32} (hD : Moves l k D)
  {o : ℕ → Option ℤ} {e f : FVec Ideal S128x128 .f32}
include hD

/-- Flags of windows, shifted. -/
theorem moved_flag {w : ℕ → Option ℤ} (he : ∀ r : Fin 128, e (ix2 r l) = flag (w r.val)) (r : Fin 128) :
    D e (ix2 r l) = flag (if r.val < k then none else w (r.val - k)) := by
  rw [hD]
  split
  · rfl
  · exact he ⟨r.val - k, by omega⟩

/-- Values of windows, shifted. -/
theorem moved_val {w : ℕ → Option ℤ} (hf : ∀ r : Fin 128, f (ix2 r l) = val (w r.val)) (r : Fin 128) :
    D f (ix2 r l) = val (if r.val < k then none else w (r.val - k)) := by
  rw [hD]
  split
  · rfl
  · exact hf ⟨r.val - k, by omega⟩

/-- The flags of windows of twice the length. -/
theorem flag_double (he : ∀ r : Fin 128, e (ix2 r l) = flag (win o k r.val)) (r : Fin 128) :
    maximumf e (D e) (ix2 r l) = flag (win o (k + k) r.val) := by
  show max (e (ix2 r l)) (D e (ix2 r l)) = _
  rw [moved_flag hD he, he, max_flag, win_add]

/-- The choice read at one place. -/
theorem pick_apply (x y z : FVec Ideal S128x128 .f32) (r : Fin 128) :
    pick x y z (ix2 r l) = if (0 : EReal) < x (ix2 r l) then y (ix2 r l) else z (ix2 r l) := by
  unfold pick; pointwise

/-- The values of windows of twice the length. -/
theorem last_double (he : ∀ r : Fin 128, e (ix2 r l) = flag (win o k r.val))
    (hf : ∀ r : Fin 128, f (ix2 r l) = val (win o k r.val)) (r : Fin 128) :
    pick e f (D f) (ix2 r l) = val (win o (k + k) r.val) := by
  rw [pick_apply hD, moved_val hD hf, he, hf, if_flag, win_add]

end

section
variable {l : Fin 128} {o : ℕ → Option ℤ} {e f : FVec Ideal S128x128 .f32}
  (he : ∀ r : Fin 128, e (ix2 r l) = flag (o r.val)) (hf : ∀ r : Fin 128, f (ix2 r l) = val (o r.val))
include he

/-- The seven shifts make every row's flag that of all rows up to it. -/
theorem flag128_eq (r : Fin 128) : flag128 e (ix2 r l) = flag (upTo o r.val) := by
  rw [← win_all o 128 r.val r.isLt]
  exact flag_double (moves64 l) (flag_double (moves32 l) (flag_double (moves16 l) (flag_double (moves8 l)
    (flag_double (moves4 l) (flag_double (moves2 l) (flag_double (moves1 l) fun r => by rw [he, win_one])))))) r

include hf

/-- The seven shifts make every row's value the last of all rows up to it. -/
theorem last128_eq (r : Fin 128) : last128 e f (ix2 r l) = val (upTo o r.val) := by
  rw [← win_all o 128 r.val r.isLt]
  have e1 : ∀ r : Fin 128, e (ix2 r l) = flag (win o 1 r.val) := fun r => by rw [he, win_one]
  have f1 : ∀ r : Fin 128, f (ix2 r l) = val (win o 1 r.val) := fun r => by rw [hf, win_one]
  have e2 := flag_double (moves1 l) e1
  have f2 := last_double (moves1 l) e1 f1
  have e4 := flag_double (moves2 l) e2
  have f4 := last_double (moves2 l) e2 f2
  have e8 := flag_double (moves4 l) e4
  have f8 := last_double (moves4 l) e4 f4
  have e16 := flag_double (moves8 l) e8
  have f16 := last_double (moves8 l) e8 f8
  have e32 := flag_double (moves16 l) e16
  have f32 := last_double (moves16 l) e16 f16
  have e64 := flag_double (moves32 l) e32
  have f64 := last_double (moves32 l) e32 f32
  exact last_double (moves64 l) e64 f64 r

end

/-- Row `r` of the image: the values of its selected pixels. -/
def rows (p : ℕ → ℕ → Bool) (r : ℕ) : List ℤ := rowOf (p r) 512 r

/-- The four carried numbers of a lane after `R` rows: the distances so far, the pixels so far, whether there is one,
    and the value of the last. -/
structure Holds (p : ℕ → ℕ → Bool) (R : ℕ) (l : Fin 128) (s n h v : FVec Ideal S1x128 .f32) : Prop where
  /-- The distances. -/
  s_eq : s (ix2 0 l) = ez (cost (acc (rows p) R))
  /-- The number of pixels. -/
  n_eq : n (ix2 0 l) = ez (acc (rows p) R).length
  /-- Whether there is a pixel. -/
  h_eq : h (ix2 0 l) = flag (acc (rows p) R).getLast?
  /-- The last value. -/
  v_eq : v (ix2 0 l) = val (acc (rows p) R).getLast?

/-- Zeros stand for no rows. -/
theorem holds_zero (p : ℕ → ℕ → Bool) (l : Fin 128) : Holds p 0 l zeros zeros zeros zeros := by
  have h : zeros (F := Ideal) (ix2 0 l) = (0 : EReal) := by unfold zeros; pointwise
  refine ⟨h.trans ?_, h.trans ?_, h.trans ?_, h.trans ?_⟩ <;> simp [acc, cost, flag, val, ez_zero]

section
variable {x : Vec Ideal S1x19x128x512 .f32} {p : ℕ → ℕ → Bool} {R : ℕ} {l : Fin 128}
  (hs : Sees p R (Block.seg x) l) {a : BitVec 32} (ha : a = BitVec.ofNat 32 (R / 128)) (hR : R % 128 = 0) (hR' : R < 512)

include hs in
/-- The flags of the rows. -/
theorem ex_rows (r : Fin 128) : ex x (ix2 r l) = flag (rows p (R + r.val)).getLast? := ex_eq hs r _

include ha hR hR' in
/-- The number of a row in the image. -/
theorem rowNo_eq (r : Fin 128) : rowNo (F := Ideal) a (ix2 r l) = ez ((R + r.val : ℕ) : ℤ) := by
  have h : rowNo (F := Ideal) a (ix2 r l)
      = FloatOps.sitofp (F := Ideal) FTy.f32 (IntOp.addi (Scalar.muli a 128#32) (BitVec.ofNat 32 r.val)) := by
    unfold rowNo; pointwise
  have h2 : IntOp.addi (Scalar.muli a 128#32) (BitVec.ofNat 32 r.val) = BitVec.ofNat 32 (R + r.val) := by
    subst ha
    show BitVec.ofNat 32 (R / 128) * 128#32 + BitVec.ofNat 32 r.val = _
    apply BitVec.eq_of_toNat_eq
    simp only [BitVec.toNat_add, BitVec.toNat_mul, BitVec.toNat_ofNat]
    omega
  rw [h, h2, sitofp_ofNat _ (by omega)]

include hs ha hR hR' in
/-- The last values of the rows. -/
theorem lastV_rows (r : Fin 128) : lastV x a (ix2 r l) = val (rows p (R + r.val)).getLast? := by
  show ex x (ix2 r l) * (lst x (ix2 r l) - rowNo a (ix2 r l)) = _
  rw [ex_rows hs, rowNo_eq ha hR hR', rows, rowOf, List.getLast?_map]
  cases hL : (cols (p (R + r.val)) 512).getLast? with
  | none => simp [flag, val]
  | some b =>
    rw [lst_eq hs r b hL, ez_sub]
    simp [flag, val]

include hs in
/-- The flags up to each row. -/
theorem scanV_eq (r : Fin 128) : scanV x (ix2 r l) = flag (upTo (fun i => (rows p (R + i)).getLast?) r.val) :=
  flag128_eq (o := fun i => (rows p (R + i)).getLast?) (fun r => ex_rows hs r) r

include hs ha hR hR' in
/-- The last value up to each row. -/
theorem scanF_eq (r : Fin 128) : scanF x a (ix2 r l) = val (upTo (fun i => (rows p (R + i)).getLast?) r.val) :=
  last128_eq (o := fun i => (rows p (R + i)).getLast?) (fun r => ex_rows hs r) (fun r => lastV_rows hs ha hR hR' r) r

/-- The sum down the rows of a lane. -/
theorem colSum_apply (y : FVec Ideal S128x128 .f32) : colSum y (ix2 0 l) = ∑ r : Fin 128, y (ix2 r l) := by
  unfold colSum; pointwise

include hs in
/-- The distances within the rows. -/
theorem within_eq : within x (ix2 0 l) = ez (∑ r ∈ Finset.range 128, cost (rows p (R + r))) := by
  rw [within, colSum_apply]
  refine (Finset.sum_congr rfl fun r _ => ?_).trans (ez_sum_fin 128 fun r => cost (rows p (R + r)))
  show ex x (ix2 r l) * (lst x (ix2 r l) - Block.fst x (ix2 r l)) = _
  rw [ex_rows hs, rows, cost_rowOf, rowOf, List.getLast?_map]
  cases hL : (cols (p (R + r.val)) 512).getLast? with
  | none =>
    rw [List.getLast?_eq_none_iff] at hL
    simp [flag, hL, ez_zero]
  | some b =>
    cases hH : (cols (p (R + r.val)) 512).head? with
    | none =>
      rw [List.head?_eq_none_iff] at hH
      simp [hH] at hL
    | some d =>
      rw [lst_eq hs r b hL, fst_eq hs r d hH, ez_sub]
      simp [flag]

variable {s n h v : FVec Ideal S1x128 .f32} (hh : Holds p R l s n h v)

include hs ha hR hR' hh in
/-- The distances from row to row. -/
theorem cross_eq : cross x a h v (ix2 0 l)
    = ez (∑ r ∈ Finset.range 128, link (acc (rows p) (R + r)).getLast? (rows p (R + r)).head?) := by
  rw [cross, colSum_apply]
  refine (Finset.sum_congr rfl fun r _ => ?_).trans
    (ez_sum_fin 128 fun r => link (acc (rows p) (R + r)).getLast? (rows p (R + r)).head?)
  have hb (y : FVec Ideal S1x128 .f32) : broadcastTo S128x128 (shapeCast S1x128 y shapeCasts_S1x128_S1x128)
      broadcasts_S1x128_S128x128 (ix2 r l) = y (ix2 0 l) := by pointwise
  show ex x (ix2 r l) * max (down1 (scanV x) (ix2 r l)) (broadcastTo S128x128 (shapeCast S1x128 h shapeCasts_S1x128_S1x128)
      broadcasts_S1x128_S128x128 (ix2 r l)) * max (Block.fst x (ix2 r l) - rowNo a (ix2 r l) - pick _ _ _ (ix2 r l))
        (-(Block.fst x (ix2 r l) - rowNo a (ix2 r l) - pick _ _ _ (ix2 r l))) = _
  rw [pick_apply (moves1 l), hb, hb, moved_flag (moves1 l) (scanV_eq hs), moved_val (moves1 l) (scanF_eq hs ha hR hR'),
    hh.h_eq, hh.v_eq, max_flag, if_flag, before_or, ex_rows hs, rowNo_eq ha hR hR']
  have hf : flag (rows p (R + r.val)).getLast? = flag (rows p (R + r.val)).head? := by
    cases rows p (R + r.val) with
    | nil => rfl
    | cons b L => rw [List.getLast?_cons]; rfl
  rw [hf]
  refine flag_mul_abs _ _ _ fun z hz => ?_
  rw [rows, rowOf, List.head?_map] at hz
  cases hH : (cols (p (R + r.val)) 512).head? with
  | none => simp [hH] at hz
  | some d =>
    rw [fst_eq hs r d hH, ez_sub]
    simp [hH] at hz
    rw [← hz]
    push_cast
    rfl

/-- The last row of a lane. -/
theorem lastRow_apply (y : FVec Ideal S128x128 .f32) : lastRow y (ix2 0 l) = y (ix2 127 l) := by
  unfold lastRow; pointwise

include hs ha hR hR' hh in
/-- One block carries the four numbers on by 128 rows. -/
theorem holds_step : Holds p (R + 128) l (newS x a s h v) (newN x n) (newH x h) (newV x a v) where
  s_eq := by
    have e : newS x a s h v (ix2 0 l) = s (ix2 0 l) + (within x (ix2 0 l) + cross x a h v (ix2 0 l)) := by
      unfold newS; pointwise
    rw [e, hh.s_eq, within_eq hs, cross_eq hs ha hR hR' hh, ez_add, ez_add, cost_acc_add]
  n_eq := by
    have e : newN x n (ix2 0 l) = n (ix2 0 l) + ∑ r : Fin 128, cnt x (ix2 r l) := by
      unfold newN; rw [← colSum_apply]; pointwise
    rw [e, hh.n_eq, length_acc_add]
    have e2 : ∑ r : Fin 128, cnt x (ix2 r l) = ez (∑ r ∈ Finset.range 128, ((rows p (R + r)).length : ℤ)) := by
      refine (Finset.sum_congr rfl fun r _ => ?_).trans (ez_sum_fin 128 fun r => ((rows p (R + r)).length : ℤ))
      rw [cnt_eq hs]
      simp [rows, rowOf]
    rw [e2, ez_add]
    push_cast
    rfl
  h_eq := by
    have e : newH x h (ix2 0 l) = max (h (ix2 0 l)) (lastRow (scanV x) (ix2 0 l)) := by
      unfold newH; pointwise
    rw [e, lastRow_apply, scanV_eq hs, hh.h_eq, max_comm, max_flag]
    exact congrArg flag (upTo_or (rows p) R 127)
  v_eq := by
    have e : newV x a v (ix2 0 l) = if (0 : EReal) < lastRow (scanV x) (ix2 0 l) then lastRow (scanF x a) (ix2 0 l)
        else v (ix2 0 l) := by
      unfold newV; pointwise
    rw [e, lastRow_apply, lastRow_apply, scanV_eq hs, scanF_eq hs ha hR hR', hh.v_eq, if_flag]
    exact congrArg val (upTo_or (rows p) R 127)

end

end Cert.Proof.Step

end
-- ==== Proof.Image.lean ====
module

public import proofs.«01_k».proof.Proof.RefClass
public import proofs.«01_k».proof.Proof.Step

/-! What both programs compute, as one formula of the logits. -/

@[expose] public section

noncomputable section

namespace Cert.Proof.Image

open Cert.ReferenceIdeal Cert.ReferenceIdeal.Gen Cert.Proof.RefClass Cert.Proof.Scan Cert.Proof.Lists Cert.Proof.Step
open Idealize.ShloMosaic Idealize.ShloMosaic.TcCoe Idealize.SL.Sem

/-- Whether the pixel of image `b` at row `r` and column `w` is of class `l + 1`. -/
def pix (x : FVec Ideal S2x19x512x512 .f32) (b : Fin 2) (l r w : ℕ) : Bool :=
  if h : r < 512 ∧ w < 512 then
    decide (l < 18) && decide (BitVec.ofNat 32 (cls x b ⟨r, h.1⟩ ⟨w, h.2⟩) = BitVec.ofNat 32 (l + 1))
  else false

/-- The values (column minus row) of the pixels of a class, in row-major order. -/
def pixels (x : FVec Ideal S2x19x512x512 .f32) (b : Fin 2) (l : ℕ) : List ℤ := acc (rows (pix x b l)) 512

/-- What a class contributes, from the sum of its distances and the number of its pixels. -/
def amount (s n : EReal) : EReal :=
  if ez 2 ≤ n then Ideal.div (Ideal.div s (max (n - 1) 1)) (n + 1) else 0

/-- What a class of an image contributes. -/
def share (x : FVec Ideal S2x19x512x512 .f32) (b : Fin 2) (l : ℕ) : EReal :=
  amount (ez (cost (pixels x b l))) (ez (pixels x b l).length)

/-- What an image contributes. -/
def image (x : FVec Ideal S2x19x512x512 .f32) (b : Fin 2) : EReal := ∑ l ∈ Finset.range 18, share x b l

/-- Beyond the eighteen classes there are no pixels. -/
theorem pixels_nil (x : FVec Ideal S2x19x512x512 .f32) (b : Fin 2) (l : ℕ) (h : ¬ l < 18) : pixels x b l = [] := by
  have hr : ∀ r, rows (pix x b l) r = [] := by
    intro r
    rw [rows, rowOf, List.map_eq_nil_iff, List.eq_nil_iff_forall_not_mem]
    intro w hw
    have h2 := (mem_cols.mp hw).2
    simp [pix, h] at h2
  rw [pixels]
  generalize 512 = n
  induction n with
  | zero => rfl
  | succ n ih => rw [acc, ih, hr]; rfl

/-- Beyond the eighteen classes nothing is contributed. -/
theorem share_zero (x : FVec Ideal S2x19x512x512 .f32) (b : Fin 2) (l : ℕ) (h : ¬ l < 18) : share x b l = 0 := by
  rw [share, pixels_nil x b l h, amount, if_neg]
  rw [ez_le]
  simp

/-- An image's contribution, as a sum over more lanes than there are classes. -/
theorem image_eq (x : FVec Ideal S2x19x512x512 .f32) (b : Fin 2) : image x b = ∑ l : Fin 128, share x b l.val := by
  rw [image, Fin.sum_univ_eq_sum_range (fun l => share x b l) 128]
  refine Finset.sum_subset (fun l hl => ?_) fun l _ hl => share_zero x b l ?_
  · simp only [Finset.mem_range] at hl ⊢; omega
  · simpa using hl

end Cert.Proof.Image

end
-- ==== Proof.KernelValue.lean ====
module

public import proofs.«01_k».proof.Proof.KernelRun
public import proofs.«01_k».proof.Proof.Image

/-! The kernel's result is the sum of what the two images contribute. -/

@[expose] public section

set_option maxRecDepth 16384

noncomputable section

namespace Cert.Proof.KernelValue

open Cert.KernelIdeal Cert.KernelIdeal.Gen Cert.Proof.Points Cert.Proof.KernelRun Cert.Proof.Image Cert.Proof.Step
  Cert.Proof.Row Cert.Proof.Scan Cert.Proof.Lists Cert.Proof.Block
open Idealize.ShloMosaic Idealize.ShloMosaic.TcCoe Idealize.SL.Sem

variable (m : (ℓ : Loc nD τ sig) → Buf (Elt Ideal) ℓ) (c : Dev nD)

/-- The logits. -/
abbrev logits : FVec Ideal ReferenceIdeal.S2x19x512x512 .f32 := m ((c.tc : Thread nD τ).loc main_arg0)

/-- The image of a point. -/
abbrev img (t : Fin cfg0.N) : Fin 2 := ⟨t.val / 4, by have := t.isLt; have := N_eq; omega⟩

/-- The block of point `t` shows its part of the image's classes. -/
theorem sees (t : Fin cfg0.N) (l : Fin 128) :
    Sees (pix (logits m c) (img t) l.val) (128 * (t.val % 4)) (Block.seg (blk m c t)) l := by
  intro r w
  have hr : 128 * (t.val % 4) + r.val < 512 ∧ w.val < 512 := by omega
  have hs : Block.seg (blk m c t) (ix2 r w)
      = BitVec.ofNat 32 (RefClass.cls (logits m c) (img t) ⟨128 * (t.val % 4) + r.val, hr.1⟩ w) := by
    rw [Class.seg_eq, (Class.chain_apply _ _ _).2, RefClass.cls]
    refine congrArg (fun p : EReal × ℕ => BitVec.ofNat 32 p.2) (Class.am_congr _ _ _ fun q hq => ?_)
    refine (Class.plane_apply (blk m c t) ⟨q, by omega⟩ r w).trans ?_
    rw [RefClass.logit, dif_pos (by omega)]
    exact blk_apply m c t 0 ⟨q, by omega⟩ r w
  rw [hs, pix, dif_pos hr]

/-- The four carried vectors after point `t`. -/
abbrev Carried (t : Fin cfg0.N) (l : Fin 128) : Prop :=
  Holds (pix (logits m c) (img t) l.val) (128 * (t.val % 4) + 128) l (outsAt0 m c t.val t.isLt).2.1
    (outsAt0 m c t.val t.isLt).2.2.1 (outsAt0 m c t.val t.isLt).2.2.2.1 (outsAt0 m c t.val t.isLt).2.2.2.2

/-- One point's step, in numbers. -/
theorem carry (t : Fin cfg0.N) (l : Fin 128)
    (p : Vec Ideal S1x128 .f32 × Vec Ideal S1x128 .f32 × Vec Ideal S1x128 .f32 × Vec Ideal S1x128 .f32)
    (hp : Holds (pix (logits m c) (img t) l.val) (128 * (t.val % 4)) l p.1 p.2.1 p.2.2.1 p.2.2.2)
    (e : (outsAt0 m c t.val t.isLt).2 = step (blk m c t) (blockNo t) p) : Carried m c t l := by
  have h := holds_step (sees m c t l) (a := blockNo t)
    (by rw [blockNo_eq]; congr 1; omega) (by omega) (by omega) hp
  rw [Carried, e]
  exact h

/-- A point that is not an image's first steps on from the one before. -/
theorem steps (t : Fin cfg0.N) (h0 : ¬ t.val % 4 = 0) :
    (outsAt0 m c t.val t.isLt).2 = step (blk m c t) (blockNo t) (prev m c t).2 := by
  by_cases h1 : t.val % 4 = 3
  · by_cases h2 : t.val < 4
    · rw [at_C m c t h0 h1 h2 (by omega)]
    · rw [at_D m c t h0 h1 h2 (by omega)]
  · rw [at_B m c t h0 h1]

/-- After every point the carried vectors hold the numbers of the image's rows so far. -/
theorem carried (n : ℕ) (hn : n < cfg0.N) (l : Fin 128) : Carried m c ⟨n, hn⟩ l := by
  induction n with
  | zero => exact carry m c _ l _ (holds_zero _ l) (at_A m c ⟨0, hn⟩ rfl (by simp))
  | succ n ih =>
    by_cases h0 : (n + 1) % 4 = 0
    · refine carry m c ⟨n + 1, hn⟩ l _ ?_ (at_A m c ⟨n + 1, hn⟩ h0 (by simp only; omega))
      simp only [h0]
      exact holds_zero _ l
    · refine carry m c ⟨n + 1, hn⟩ l _ ?_ (steps m c ⟨n + 1, hn⟩ h0)
      have h := ih (by omega)
      have e1 : img ⟨n + 1, hn⟩ = img ⟨n, by omega⟩ := Fin.ext (by simp only; omega)
      have e2 : 128 * ((n + 1) % 4) = 128 * (n % 4) + 128 := by omega
      rw [e1]
      simp only [e2]
      exact h

/-- What an image adds, from the carried sums and counts. -/
theorem part_apply (n s : FVec Ideal S1x128 .f32) :
    part n s = ∑ l : Fin 128, amount (s (ix2 0 l)) (n (ix2 0 l)) := by
  have e : part n s = ∑ _u : Fin 1, ∑ l : Fin 128, if Ideal.ofBits FTy.f32 1073741824#32 ≤ n (ix2 0 l) then
      Ideal.div (Ideal.div (s (ix2 0 l)) (max (n (ix2 0 l) - 1) 1)) (n (ix2 0 l) + 1) else 0 := by
    unfold part k0_pay3; pointwise
  rw [e, Fin.sum_univ_one]
  simp only [amount, const2]

/-- An image's last point adds what the image contributes. -/
theorem part_image (t : Fin cfg0.N) (h1 : t.val % 4 = 3) :
    part (F := Ideal) (outsAt0 m c t.val t.isLt).2.2.1 (outsAt0 m c t.val t.isLt).2.1 = image (logits m c) (img t) := by
  rw [part_apply, image_eq]
  refine Finset.sum_congr rfl fun l _ => ?_
  have h := carried m c t.val t.isLt l
  have e : 128 * (t.val % 4) + 128 = 512 := by omega
  rw [share, pixels]
  have hs := h.s_eq
  have hn := h.n_eq
  simp only [e] at hs hn
  rw [hs, hn]

/-- The output after the last point. -/
theorem out_eq : (outsAt0 m c 7 (by decide)).1 (ix2 0 0) = image (logits m c) 0 + image (logits m c) 1 := by
  have a7 := at_D m c ⟨7, by decide⟩ (by decide) (by decide) (by decide) (by decide)
  have a6 := congrArg Prod.fst (at_B m c ⟨6, by decide⟩ (by decide) (by decide))
  have a5 := congrArg Prod.fst (at_B m c ⟨5, by decide⟩ (by decide) (by decide))
  have a4 := at_A_out m c ⟨4, by decide⟩ (by decide) (by decide) (by decide)
  have a3 := at_C m c ⟨3, by decide⟩ (by decide) (by decide) (by decide) (by decide)
  have p7 := part_image m c ⟨7, by decide⟩ (by decide)
  have p3 := part_image m c ⟨3, by decide⟩ (by decide)
  rw [a7] at p7
  rw [a3] at p3
  have o3 := congrFun (congrArg Prod.fst a3) (ix2 0 0)
  have o7 := congrFun (congrArg Prod.fst a7) (ix2 0 0)
  have o4 := (congrFun a6 (ix2 0 0)).trans ((congrFun a5 (ix2 0 0)).trans ((congrFun a4 (ix2 0 0)).trans (o3.trans p3)))
  refine o7.trans ?_
  refine congrArg₂ (fun a b : EReal => a + b) ?_ p7
  exact o4

end Cert.Proof.KernelValue

end
-- ==== Proof.Sorted.lean ====
module

public import proofs.«01_k».proof.Proof.Image

/-! A stable sort by a two-valued key, and the pixels of an image as one list. -/

@[expose] public section

noncomputable section

namespace Cert.Proof.Sorted

open Cert.Proof.Lists Cert.Proof.Step
open Idealize.ShloMosaic

section
variable {ι : Type} (p : ι → Bool)

/-- A member goes to the front. -/
theorem insert_member (a : ι) (h : p a = true) (l : List ι) :
    insertBefore (fun i j => p i && !p j) a l = a :: l := by
  cases l with
  | nil => rfl
  | cons b l => simp [insertBefore, h]

/-- Any other element passes the members and goes before the rest. -/
theorem insert_other (a : ι) (h : p a = false) (l₁ l₂ : List ι) (h1 : ∀ i ∈ l₁, p i = true) (h2 : ∀ i ∈ l₂, p i = false) :
    insertBefore (fun i j => p i && !p j) a (l₁ ++ l₂) = l₁ ++ a :: l₂ := by
  induction l₁ with
  | nil =>
    cases l₂ with
    | nil => rfl
    | cons b l => simp [insertBefore, h2 b (by simp)]
  | cons b l ih =>
    rw [List.cons_append, insertBefore, if_pos (by simp [h, h1 b (by simp)]), ih fun i hi => h1 i (by simp [hi])]
    rfl

/-- The sort puts the members first and keeps the order within the members and within the rest. -/
theorem sort_eq (l : List ι) :
    stableSort (fun i j => p i && !p j) l = l.filter p ++ l.filter fun i => !p i := by
  induction l with
  | nil => rfl
  | cons a l ih =>
    rw [stableSort, ih]
    cases h : p a with
    | true => rw [insert_member p a h]; simp [h]
    | false =>
      rw [insert_other p a h _ _ (fun i hi => (List.mem_filter.mp hi).2)
        (fun i hi => by simpa using (List.mem_filter.mp hi).2)]
      simp [h]

end

/-- The position the sort puts at `i`, if there are more members than `i`, is the member with `i` members before it. -/
theorem sortedFrom_eq {n : ℕ} (q : ℕ → Bool) (i : Fin n) (h : i.val < (cols q n).length) :
    (cols q n)[i.val]? = some (sortedFrom (fun a b : Fin n => q a.val && !q b.val) i).val := by
  have hc : cols q n = ((List.finRange n).filter fun a => q a.val).map Fin.val := by
    rw [cols, ← List.map_coe_finRange_eq_range, List.filter_map]
    rfl
  have hs := sort_eq (fun a : Fin n => q a.val) (List.finRange n)
  have hl : i.val < ((List.finRange n).filter fun a => q a.val).length := by
    rw [hc, List.length_map] at h; exact h
  have hg : (sortPositions n fun a b : Fin n => q a.val && !q b.val)[i.val]?
      = some (sortedFrom (fun a b : Fin n => q a.val && !q b.val) i) := by
    rw [sortedFrom, List.get_eq_getElem]
    exact List.getElem?_eq_getElem _
  rw [sortPositions, hs, List.getElem?_append_left hl] at hg
  rw [hc, List.getElem?_map, hg]
  rfl

/-- The rows one after the other are the pixels in one list, each standing for its column minus its row. -/
theorem acc_eq (p : ℕ → ℕ → Bool) (R : ℕ) :
    acc (rows p) R = (cols (fun n => p (n / 512) (n % 512)) (512 * R)).map
      fun n => ((n % 512 : ℕ) : ℤ) - ((n / 512 : ℕ) : ℤ) := by
  induction R with
  | zero => rfl
  | succ R ih =>
    have hc : cols (fun n => p (n / 512) (n % 512)) (512 * (R + 1))
        = cols (fun n => p (n / 512) (n % 512)) (512 * R) ++ (cols (p R) 512).map (512 * R + ·) := by
      rw [cols, cols, cols, Nat.mul_succ, List.range_add, List.filter_append, List.filter_map]
      congr 2
      refine List.filter_congr fun w hw => ?_
      have hw' : w < 512 := List.mem_range.mp hw
      simp only [Function.comp_apply]
      rw [show (512 * R + w) / 512 = R by omega, show (512 * R + w) % 512 = w by omega]
    rw [acc, ih, hc, List.map_append, rows, rowOf, List.map_map]
    congr 1
    refine List.map_congr_left fun w hw => ?_
    have hw' : w < 512 := (mem_cols.mp hw).1
    simp only [Function.comp_apply]
    rw [show (512 * R + w) / 512 = R by omega, show (512 * R + w) % 512 = w by omega]

end Cert.Proof.Sorted

end
-- ==== Proof.RefRead.lean ====
module

public import proofs.«01_k».proof.Proof.Sorted
public import Idealize.ShloMosaic.Lib.Pointwise

/-! The stages of the reference, read at one place. -/

@[expose] public section

set_option maxRecDepth 16384

noncomputable section

namespace Cert.Proof.RefRead

open Cert.ReferenceIdeal Cert.ReferenceIdeal.Gen Cert.Proof.RefClass Cert.Proof.Image Cert.Proof.Scan Cert.Proof.Lists
  Cert.Proof.Sorted
open Idealize.ShloMosaic Idealize.ShloMosaic.TcCoe Idealize.SL.Sem

/-- The second result of a sort of two operands: the operand at the sorted position. -/
theorem sort2_snd {s : Shape} {α β : Type} (d : Fin s.rank) (cmp : α × β → α × β → BitVec 1) (x : s.Idx → α)
    (y : s.Idx → β) : (Host.sort2 s d.val cmp x y).2 = fun j => y (j.along d (sortedFrom (fun k k' =>
      cmp (x (j.along d k), y (j.along d k)) (x (j.along d k'), y (j.along d k')) == 1#1) (j d))) := by
  unfold Host.sort2
  rw [dif_pos d.isLt]

/-- A sort that carries the positions along gives the sorted positions, `B` being the order of the positions. -/
theorem sort_positions {s : Shape} {α : Type} (d : Fin s.rank) (cmp : α × BitVec 32 → α × BitVec 32 → BitVec 1)
    (x : s.Idx → α) (j : s.Idx) (B : Fin (s.size d) → Fin (s.size d) → Bool)
    (hB : ∀ a c, (cmp (x (j.along d a), iotaInDim s 32 d (j.along d a)) (x (j.along d c), iotaInDim s 32 d (j.along d c))
      == 1#1) = B a c) :
    (Host.sort2 s d.val cmp x (iotaInDim s 32 d)).2 j = BitVec.ofNat 32 (sortedFrom B (j d)).val := by
  rw [sort2_snd]
  have e : (fun k k' => cmp (x (j.along d k), iotaInDim s 32 d (j.along d k))
      (x (j.along d k'), iotaInDim s 32 d (j.along d k')) == 1#1) = B := funext fun a => funext fun c => hB a c
  simp only [e]
  simp [iotaInDim, Shape.Idx.along]

/-- The dimension numbers of a gather from a vector, at any extents. -/
abbrev takeDims (N A B M : ℕ) (wf : GatherDims.WF ⟨1, ![N]⟩ ⟨4, ![A, B, M, 1]⟩ ⟨3, ![A, B, M]⟩ [] [0] [] [0] [] 3 ![1]) :
    GatherDims ⟨1, ![N]⟩ ⟨4, ![A, B, M, 1]⟩ ⟨3, ![A, B, M]⟩ where
  offsetDims := []
  collapsedSliceDims := [0]
  operandBatchingDims := []
  startIndicesBatchingDims := []
  startIndexMap := [0]
  indexVectorDim := 3
  sliceSizes := ![1]
  wf := wf

/-- A gather from a vector reads it at the index, clamped. -/
theorem gather_apply {α : Type} {N A B M w : ℕ} (hN : 0 < N)
    (wf : GatherDims.WF ⟨1, ![N]⟩ ⟨4, ![A, B, M, 1]⟩ ⟨3, ![A, B, M]⟩ [] [0] [] [0] [] 3 ![1])
    (x : (⟨1, ![N]⟩ : Shape).Idx → α) (idx : IVec ⟨4, ![A, B, M, 1]⟩ w) (a : Fin A) (b : Fin B) (i : Fin M) :
    Host.gather (takeDims N A B M wf) x idx (ix3 a b i)
      = x (ix1 ⟨min (idx (ix4 a b i 0)).toInt.toNat (N - 1), by omega⟩) := by
  unfold Host.gather
  refine congrArg x (funext fun e => ?_)
  obtain rfl : e = 0 := Subsingleton.elim _ _
  refine Fin.ext ?_
  show (takeDims N A B M wf).start (ix3 a b i) idx 0 + (takeDims N A B M wf).batchCoord (ix3 a b i) 0
    + (takeDims N A B M wf).offCoord (ix3 a b i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims N A B M wf).startIndexMap from List.mem_singleton.mpr rfl)]
  have hsi : (takeDims N A B M wf).siIdx (ix3 a b i) ⟨List.idxOf (0 : Fin 1) (takeDims N A B M wf).startIndexMap,
      List.idxOf_lt_length_iff.2 (List.mem_singleton.mpr rfl)⟩ = ix4 a b i 0 := by
    funext e
    refine Fin.ext ?_
    fin_cases e <;> rfl
  rw [hsi]
  rfl

/-- The membership of pixel `n` in class `l + 1` of image `b`. -/
def member (x : FVec Ideal S2x19x512x512 .f32) (b : Fin 2) (l : Fin 18) (n : ℕ) : Bool := pix x b l.val (n / 512) (n % 512)

/-- The comparison of two classes. -/
theorem cmpi_eq (a b : BitVec 32) : IntOp.cmpi .eq a b = BitVec.ofBool (decide (a = b)) := by
  show BitVec.ofBool (a == b) = _
  by_cases h : a = b
  · subst h; simp
  · rw [beq_eq_false_iff_ne.mpr h, decide_eq_false h]

/-- A class, counted from one. -/
theorem addi_one (l : ℕ) (hl : l < 18) : IntOp.addi (1#32) (BitVec.ofNat 32 l) = BitVec.ofNat 32 (l + 1) := by
  show 1#32 + BitVec.ofNat 32 l = _
  apply BitVec.eq_of_toNat_eq
  simp only [BitVec.toNat_add, BitVec.toNat_ofNat]
  omega

/-- The mask at a pixel, from the class of the pixel. -/
theorem mask_read (S : IVec S2x512x512 32) (b : Fin 2) (l : Fin 18) (n : Fin 262144) (h1 : n.val / 512 < 512)
    (h2 : n.val % 512 < 512) :
    Ref.mask S (ix3 b l n) = BitVec.ofBool (decide (S (ix3 b ⟨n.val / 512, h1⟩ ⟨n.val % 512, h2⟩) = BitVec.ofNat 32 (l.val + 1))) := by
  rw [← cmpi_eq, ← addi_one l.val l.isLt]
  unfold Ref.mask; pointwise

/-- The mask at a pixel. -/
theorem mask_apply (x : FVec Ideal S2x19x512x512 .f32) (b : Fin 2) (l : Fin 18) (n : Fin 262144) :
    Ref.mask (Ref.seg (F := Ideal) x) (ix3 b l n) = BitVec.ofBool (member x b l n.val) := by
  have h1 : n.val / 512 < 512 := by omega
  have h2 : n.val % 512 < 512 := by omega
  rw [mask_read _ b l n h1 h2, seg_apply, member, pix, dif_pos ⟨h1, h2⟩, decide_eq_true l.isLt, Bool.true_and]

/-- The order at a position. -/
theorem order_apply (k : IVec S2x18x262144 1) (b : Fin 2) (l : Fin 18) (q : ℕ → Bool)
    (hq : ∀ n : Fin 262144, k (ix3 b l n) = BitVec.ofBool (q n.val)) (i : Fin 262144) :
    Ref.order k (ix3 b l i)
      = BitVec.ofNat 32 (sortedFrom (fun a c : Fin 262144 => q a.val && !q c.val) i).val := by
  have h : Ref.order k = (Host.sort2 S2x18x262144 2 comparator_i32_i32_d2
      (select k (broadcastInDim S2x18x262144 ![] bcast_S_S2x18x262144 (constantI S_ 32 0#32))
        (broadcastInDim S2x18x262144 ![] bcast_S_S2x18x262144 (constantI S_ 32 1#32)))
      (iotaInDim S2x18x262144 32 2)).2 := by
    delta Ref.order; with_reducible rfl
  rw [h]
  have hal (n : Fin 262144) : (ix3 b l i : S2x18x262144.Idx).along (2 : Fin 3) n = ix3 b l n := by
    funext e
    fin_cases e <;> rfl
  have hkey (n : Fin 262144) : select k (broadcastInDim S2x18x262144 ![] bcast_S_S2x18x262144 (constantI S_ 32 0#32))
      (broadcastInDim S2x18x262144 ![] bcast_S_S2x18x262144 (constantI S_ 32 1#32))
      ((ix3 b l i : S2x18x262144.Idx).along (2 : Fin 3) n) = if q n.val then 0#32 else 1#32 := by
    rw [hal]
    show Scalar.select (k (ix3 b l n)) (0#32) (1#32) = _
    rw [hq]
    cases q n.val <;> rfl
  refine sort_positions (s := S2x18x262144) (2 : Fin 3) _ _ (ix3 b l i)
    (fun a c : Fin 262144 => q a.val && !q c.val) fun a c => ?_
  have e : comparator_i32_i32_d2 = fun u v : BitVec 32 × BitVec 32 => IntOp.cmpi .slt u.1 v.1 := rfl
  rw [e]
  refine (congrArg₂ (fun u v : BitVec 32 => IntOp.cmpi .slt u v == 1#1) (hkey a) (hkey c)).trans ?_
  cases q a.val <;> cases q c.val <;> decide

/-- A position that is there is not wrapped. -/
theorem wrapped_apply (o : IVec S2x18x262144 32) (j : S2x18x262144.Idx) (n : ℕ) (hn : n < 262144)
    (ho : o j = BitVec.ofNat 32 n) : Ref.wrapped o j = BitVec.ofNat 32 n := by
  show Scalar.select (IntOp.cmpi CmpIPredicate.slt (o j) 0#32) (IntOp.addi (o j) 262144#32) (o j) = _
  rw [ho]
  have h : IntOp.cmpi CmpIPredicate.slt (BitVec.ofNat 32 n) 0#32 = 0#1 := by
    show BitVec.ofBool (BitVec.slt _ _) = _
    rw [BitVec.slt_eq_decide, Row.toInt_ofNat n (by omega), decide_eq_false (by rw [BitVec.toInt_zero]; omega)]
    rfl
  rw [h]
  rfl

/-- The value of a pixel is its column minus its row. -/
theorem vals_apply (n : Fin 262144) :
    Ref.vals (F := Ideal) (ix1 n) = ez (((n.val % 512 : ℕ) : ℤ) - ((n.val / 512 : ℕ) : ℤ)) := by
  have h : Ref.vals (F := Ideal) (ix1 n) = (FloatOps.sitofp (F := Ideal) FTy.f32 (BitVec.ofNat 32 (n.val % 512)) : EReal)
      - FloatOps.sitofp (F := Ideal) FTy.f32 (BitVec.ofNat 32 (n.val / 512)) := by
    unfold Ref.vals; pointwise
  rw [h, Row.sitofp_ofNat _ (by omega), Row.sitofp_ofNat _ (by omega), ez_sub]

/-- The gathered value is that of the pixel at the sorted position. -/
theorem gathered_apply (o : IVec S2x18x262144 32) (b : Fin 2) (l : Fin 18) (i : Fin 262144) (n : ℕ) (hn : n < 262144)
    (ho : o (ix3 b l i) = BitVec.ofNat 32 n) :
    Ref.gathered (F := Ideal) o (ix3 b l i) = ez (((n % 512 : ℕ) : ℤ) - ((n / 512 : ℕ) : ℤ)) := by
  have hb : broadcastInDim S2x18x262144x1 ![0, 1, 2] bcast_S2x18x262144_S2x18x262144x1_0_1_2 (Ref.wrapped o) (ix4 b l i 0)
      = BitVec.ofNat 32 n := by
    rw [← wrapped_apply o (ix3 b l i) n hn ho]
    generalize Ref.wrapped o = u
    pointwise
  have h := gather_apply (N := 262144) (by omega)
    gather_S262144_S2x18x262144x1_S2x18x262144_n_0_n_n_0_3_1_wf (Ref.vals (F := Ideal))
    (broadcastInDim S2x18x262144x1 ![0, 1, 2] bcast_S2x18x262144_S2x18x262144x1_0_1_2 (Ref.wrapped o)) b l i
  refine h.trans ?_
  rw [vals_apply]
  simp only [hb, Row.toInt_ofNat n (by omega)]
  rw [show min (n : ℤ).toNat (262144 - 1) = n by omega]

/-- The number of selected positions, as a sum. -/
theorem ez_length (q : ℕ → Bool) (N : ℕ) :
    ez (∑ n ∈ Finset.range N, if q n then 1 else 0) = ez (cols q N).length := by
  rw [length_cols]
  congr 1
  push_cast
  rfl

/-- The number of pixels of a class. -/
theorem nf_apply (k : IVec S2x18x262144 1) (b : Fin 2) (l : Fin 18) (q : ℕ → Bool)
    (hq : ∀ n : Fin 262144, k (ix3 b l n) = BitVec.ofBool (q n.val)) :
    Ref.nf (F := Ideal) k (ix2 b l) = ez (cols q 262144).length := by
  have h : Ref.nf (F := Ideal) k (ix2 b l) = ∑ n : Fin 262144, (FloatOps.uitofp (F := Ideal) FTy.f32 (k (ix3 b l n)) : EReal) := by
    unfold Ref.nf; pointwise
  rw [h]
  refine (Finset.sum_congr rfl fun n _ => ?_).trans
    ((ez_sum_fin 262144 fun n => if q n then 1 else 0).trans (ez_length q 262144))
  rw [hq]
  show (((BitVec.ofBool (q n.val)).toNat : ℝ) : EReal) = _
  cases q n.val <;> simp [ez]

/-- The sum of the distances between neighbours, from the values of the class's pixels in order. -/
theorem dist_apply (g : FVec Ideal S2x18x262144 .f32) (n : FVec Ideal S2x18 .f32) (b : Fin 2) (l : Fin 18) (L : List ℤ)
    (hL : L.length ≤ 262144) (hn : n (ix2 b l) = ez L.length)
    (hg : ∀ i : Fin 262144, i.val < L.length → ∃ z, L[i.val]? = some z ∧ g (ix3 b l i) = ez z) :
    Ref.dist (F := Ideal) g n (ix2 b l) = ez (cost L) := by
  have h : Ref.dist (F := Ideal) g n (ix2 b l) = ∑ i : Fin 262143,
      FloatOps.absf (F := Ideal) (φ := .f32) ((g (ix3 b l ⟨1 + i.val, by omega⟩) : EReal) - g (ix3 b l ⟨i.val, by omega⟩))
        * (FloatOps.uitofp (F := Ideal) FTy.f32
          (BitVec.ofBool (decide ((FloatOps.sitofp (F := Ideal) FTy.f32 (BitVec.ofNat 32 i.val) : EReal) < n (ix2 b l) - 1))) : EReal) := by
    unfold Ref.dist Ref.valid; pointwise
  rw [h, cost_eq_sum L (fun i => L[i]?.getD 0) (fun i hi => by simp [hi]) 262143 (by omega)]
  refine (Finset.sum_congr rfl fun i _ => ?_).trans
    (ez_sum_fin 262143 fun i => if i + 1 < L.length then |L[i + 1]?.getD 0 - L[i]?.getD 0| else 0)
  rw [hn, Row.sitofp_ofNat _ (by omega), ← ez_one, ez_sub]
  simp only [ez_lt]
  by_cases hi : i.val + 1 < L.length
  · obtain ⟨z, hz, hz'⟩ := hg ⟨i.val, by omega⟩ (by simp only; omega)
    obtain ⟨y, hy, hy'⟩ := hg ⟨1 + i.val, by omega⟩ (by simp only; omega)
    simp only at hz hy
    rw [Nat.add_comm 1] at hy
    rw [hz', hy', if_pos hi, hz, hy, decide_eq_true (by omega), ez_sub]
    show max (ez (y - z)) (-ez (y - z)) * (((BitVec.ofBool true).toNat : ℝ) : EReal) = _
    rw [ez_abs]
    simp
  · rw [if_neg hi, decide_eq_false (by omega)]
    show _ * (((BitVec.ofBool false).toNat : ℝ) : EReal) = _
    simp [ez_zero]

/-- The loss, from the sums of distances and the counts. -/
theorem total_apply (s n : FVec Ideal S2x18 .f32) (i : S_.Idx) :
    Ref.total (F := Ideal) (Ref.contrib s n) i = ∑ b : Fin 2, ∑ l : Fin 18, amount (s (ix2 b l)) (n (ix2 b l)) := by
  have h : Ref.total (F := Ideal) (Ref.contrib s n) i = ∑ b : Fin 2, ∑ l : Fin 18,
      if Ideal.ofBits FTy.f32 1073741824#32 ≤ n (ix2 b l) then
        Ideal.div (Ideal.div (s (ix2 b l)) (max (n (ix2 b l) - 1) 1)) (n (ix2 b l) + 1) else 0 := by
    obtain rfl : i = fun a => nomatch a := funext fun a => nomatch a
    unfold Ref.total Ref.contrib; pointwise
  rw [h]
  simp only [amount, Row.const2]

/-- The reference's result: the sum of what the two images contribute. -/
theorem result_apply (x : FVec Ideal S2x19x512x512 .f32) (i : S_.Idx) :
    Ref.result (F := Ideal) x i = image x 0 + image x 1 := by
  have hk (b : Fin 2) (l : Fin 18) := mask_apply x b l
  have hp (b : Fin 2) (l : Fin 18) : pixels x b l.val = (cols (member x b l) 262144).map
      fun n => ((n % 512 : ℕ) : ℤ) - ((n / 512 : ℕ) : ℤ) := acc_eq (pix x b l.val) 512
  have hn (b : Fin 2) (l : Fin 18) : Ref.nf (F := Ideal) (Ref.mask (Ref.seg (F := Ideal) x)) (ix2 b l)
      = ez (pixels x b l.val).length := by
    rw [nf_apply _ b l _ (hk b l), hp, List.length_map]
  have hd (b : Fin 2) (l : Fin 18) : Ref.dist (F := Ideal) (Ref.gathered (Ref.order (Ref.mask (Ref.seg (F := Ideal) x))))
      (Ref.nf (Ref.mask (Ref.seg (F := Ideal) x))) (ix2 b l) = ez (cost (pixels x b l.val)) := by
    refine dist_apply _ _ b l _ ?_ (hn b l) fun i hi => ?_
    · rw [hp, List.length_map, cols]
      exact (List.length_filter_le _ _).trans (by rw [List.length_range])
    · rw [hp, List.length_map] at hi
      have hs := sortedFrom_eq (member x b l) i hi
      refine ⟨_, by rw [hp, List.getElem?_map, hs]; rfl, ?_⟩
      exact gathered_apply _ b l i _ (Fin.isLt _) (order_apply _ b l _ (hk b l) i)
  rw [Ref.result, total_apply, Fin.sum_univ_two]
  simp only [hn, hd]
  rw [image, image, Fin.sum_univ_eq_sum_range (fun l => amount (ez (cost (pixels x 0 l))) (ez (pixels x 0 l).length)) 18,
    Fin.sum_univ_eq_sum_range (fun l => amount (ez (cost (pixels x 1 l))) (ez (pixels x 1 l).length)) 18]
  rfl

end Cert.Proof.RefRead

end
-- ==== Proof.Equation.lean ====
module

public import proofs.«01_k».proof.Defs
public import proofs.«01_k».proof.Proof.KernelValue
public import proofs.«01_k».proof.Proof.RefRead

/-! Kernel and reference compute the same function of the logits. -/

@[expose] public section

set_option maxRecDepth 16384

noncomputable section

namespace Cert.Proof.Equation

open Idealize.ShloMosaic Idealize.ShloMosaic.TcCoe Idealize.SL.Sem

/-- Over the extended reals, from memories with the same logits and labels, the kernel's run and the reference's run
    end with the same number, the reference's `result` of the logits, and leave their arguments as they were. -/
theorem algebraic : Cert.algebraic_KernelIdeal_ReferenceIdeal := by
  intro m g m' g' _ hargs
  refine ⟨fun c => Ref.result (F := Ideal) (KernelValue.logits m c), ?_, ?_⟩
  · refine (θ_run _ _ _).mono (fun r h c => ⟨?_, (h c).2⟩) (KernelRun.run m g)
    funext i
    rw [(h c).1 i, KernelValue.out_eq m c]
    exact (RefRead.result_apply _ i).symm
  · refine (θ_run _ _ _).mono (fun r h c => ⟨?_, (h c).2⟩) (Ref.run (F := Ideal) m' g')
    rw [(h c).1, (hargs c).1]

end Cert.Proof.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Equation

@[expose] public section

noncomputable section

namespace Cert.Proof

open Idealize.ShloMosaic Idealize.SL.Sem

/-- Kernel, ideal kernel and reference run without fault, leave their arguments as they were and every semaphore
    counter at zero; the ideal kernel is the kernel over the extended reals; and kernel and reference compute the
    same function there. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Ref.frame m ρ, trivial, Equation.algebraic⟩

end Cert.Proof

end
